-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x3584 : Shape := ⟨3, ![1, 4096, 3584]⟩
abbrev S3584x7168 : Shape := ⟨2, ![3584, 7168]⟩
abbrev S7168 : Shape := ⟨1, ![7168]⟩
abbrev S4096x3584 : Shape := ⟨2, ![4096, 3584]⟩
abbrev S1x7168 : Shape := ⟨2, ![1, 7168]⟩
abbrev S4096x1 : Shape := ⟨2, ![4096, 1]⟩
abbrev S512x3584 : Shape := ⟨2, ![512, 3584]⟩
abbrev S3584x512 : Shape := ⟨2, ![3584, 512]⟩
abbrev S1x512 : Shape := ⟨2, ![1, 512]⟩
abbrev S512x1 : Shape := ⟨2, ![512, 1]⟩
abbrev S512x128 : Shape := ⟨2, ![512, 128]⟩
abbrev S512 : Shape := ⟨1, ![512]⟩
abbrev S512x255 : Shape := ⟨2, ![512, 255]⟩
abbrev S512x512 : Shape := ⟨2, ![512, 512]⟩

abbrev nBuf : Space → Nat
  | .hbm => 9
  | .vmem => 20
  | .smem => 0
  | _ => 0

abbrev bufTy : (tb : Table) → Fin (tcTables nBuf tb) → BufTy
  | .hbm, ⟨0, _⟩ => ⟨S1x4096x3584, .bf16⟩
  | .hbm, ⟨1, _⟩ => ⟨S3584x7168, .fp8e4m3⟩
  | .hbm, ⟨2, _⟩ => ⟨S7168, .f32⟩
  | .hbm, ⟨3, _⟩ => ⟨S4096x3584, .bf16⟩
  | .hbm, ⟨4, _⟩ => ⟨S1x7168, .f32⟩
  | .hbm, ⟨5, _⟩ => ⟨S4096x1, .f32⟩
  | .hbm, ⟨6, _⟩ => ⟨S4096x3584, .fp8e4m3⟩
  | .hbm, ⟨7, _⟩ => ⟨S4096x3584, .fp8e4m3⟩
  | .hbm, ⟨8, _⟩ => ⟨S4096x1, .f32⟩
  | .local _ .vmem, ⟨0, _⟩ => ⟨S512x3584, .bf16⟩
  | .local _ .vmem, ⟨1, _⟩ => ⟨S512x3584, .bf16⟩
  | .local _ .vmem, ⟨2, _⟩ => ⟨S3584x512, .fp8e4m3⟩
  | .local _ .vmem, ⟨3, _⟩ => ⟨S3584x512, .fp8e4m3⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x3584, .fp8e4m3⟩
  | .local _ .vmem, ⟨13, _⟩ => ⟨S512x3584, .fp8e4m3⟩
  | .local _ .vmem, ⟨14, _⟩ => ⟨S512x3584, .fp8e4m3⟩
  | .local _ .vmem, ⟨15, _⟩ => ⟨S512x3584, .fp8e4m3⟩
  | .local _ .vmem, ⟨16, _⟩ => ⟨S512x1, .f32⟩
  | .local _ .vmem, ⟨17, _⟩ => ⟨S512x1, .f32⟩
  | .local _ .vmem, ⟨18, _⟩ => ⟨S512x3584, .f32⟩
  | .local _ .vmem, ⟨19, _⟩ => ⟨S512x128, .f32⟩
  | _, _ => ⟨S1x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 7], ![false, false]⟩

def k0_mult1 (i : grid0.Coords) : BitVec 32 :=
  let arg1 : BitVec 32 := BitVec.ofNat 32 (i 1).val
  let c512_i32 : BitVec 32 := 512#32
  let v26 : BitVec 32 := Scalar.muli arg1 c512_i32
  v26
def k0_off1 (i : grid0.Coords) : Fin 2 → Nat :=
  let c0_13 : Index := 0#32
  let arg1 : BitVec 32 := BitVec.ofNat 32 (i 1).val
  let c512_i32 : BitVec 32 := 512#32
  let v26 : BitVec 32 := Scalar.muli arg1 c512_i32
  let v27 : BitVec 32 := v26
  let v28 : Index := Scalar.indexCast v27
  ![0, v28.toNat]
def k0_cond2 (i : grid0.Coords) : BitVec 1 :=
  let arg1 : BitVec 32 := BitVec.ofNat 32 (i 1).val
  let c6_i32 : BitVec 32 := 6#32
  let v45 : BitVec 1 := Scalar.cmpi .eq arg1 c6_i32
  let v46 : BitVec 32 := Scalar.extui v45
  let c0_i32_18 : BitVec 32 := 0#32
  let v47 : BitVec 1 := Scalar.cmpi .ne v46 c0_i32_18
  v47

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S1x4096x3584 : Shape := ⟨3, ![1, 4096, 3584]⟩
abbrev S3584x7168 : Shape := ⟨2, ![3584, 7168]⟩
abbrev S7168 : Shape := ⟨1, ![7168]⟩
abbrev S4096x3584 : Shape := ⟨2, ![4096, 3584]⟩
abbrev S1x7168 : Shape := ⟨2, ![1, 7168]⟩
abbrev S4096x1 : Shape := ⟨2, ![4096, 1]⟩
abbrev S4096 : Shape := ⟨1, ![4096]⟩
abbrev S4096x7168 : Shape := ⟨2, ![4096, 7168]⟩

abbrev nBuf : Space → Nat
  | .hbm => 9
  | .vmem => 7
  | .smem => 0
  | _ => 0

abbrev bufTy : (tb : Table) → Fin (tcTables nBuf tb) → BufTy
  | .hbm, ⟨0, _⟩ => ⟨S1x4096x3584, .bf16⟩
  | .hbm, ⟨1, _⟩ => ⟨S3584x7168, .fp8e4m3⟩
  | .hbm, ⟨2, _⟩ => ⟨S7168, .f32⟩
  | .hbm, ⟨3, _⟩ => ⟨S4096x3584, .bf16⟩
  | .hbm, ⟨4, _⟩ => ⟨S1x7168, .f32⟩
  | .hbm, ⟨5, _⟩ => ⟨S4096x1, .f32⟩
  | .hbm, ⟨6, _⟩ => ⟨S4096x3584, .fp8e4m3⟩
  | .hbm, ⟨7, _⟩ => ⟨S4096x3584, .fp8e4m3⟩
  | .hbm, ⟨8, _⟩ => ⟨S4096x1, .f32⟩
  | .local _ .vmem, ⟨0, _⟩ => ⟨S4096x3584, .bf16⟩
  | .local _ .vmem, ⟨1, _⟩ => ⟨S3584x7168, .fp8e4m3⟩
  | .local _ .vmem, ⟨2, _⟩ => ⟨S1x7168, .f32⟩
  | .local _ .vmem, ⟨3, _⟩ => ⟨S4096x1, .f32⟩
  | .local _ .vmem, ⟨4, _⟩ => ⟨S4096x3584, .fp8e4m3⟩
  | .local _ .vmem, ⟨5, _⟩ => ⟨S4096x3584, .fp8e4m3⟩
  | .local _ .vmem, ⟨6, _⟩ => ⟨S4096x1, .f32⟩
  | _, _ => ⟨S1x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Hand.KernelRun.lean ====
module

public import proofs.«01_k».proof.Proof.Gen.Kernel.Skeleton
public import proofs.«01_k».proof.Proof.Gen.Kernel.Frame
public import Idealize.ShloMosaic.Lib.VecWindow

/-! What the kernel's body does at one grid point, in its three cases: the first point of a row of blocks, a point in the middle, and the last one. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The values the body computes -/

/-- The codes of a block of the activations, rows quantised one by one. -/
abbrev codesOf (x0 : Vec F S512x3584 .bf16) : Vec F S512x3584 .fp8e4m3 := k0_pay10 (k0_pay3 x0) (k0_pay6 x0)

/-- The scales of a block of the activations, one a row. -/
abbrev scalesOf (x0 : Vec F S512x3584 .bf16) : Vec F S512x1 .f32 := k0_pay5 x0

/-- One block of the hidden activations, from the codes and scales of the rows and the two weight blocks. -/
abbrev hidden (xc : Vec F S512x3584 .fp8e4m3) (xs : Vec F S512x1 .f32) (x1 : Vec F S3584x512 .fp8e4m3) (x2 : Vec F S3584x512 .fp8e4m3)
    (x3 : Vec F S1x512 .f32) (x4 : Vec F S1x512 .f32) : Vec F S512x512 .f32 := k0_pay13 xc xs x1 x2 x3 x4

/-- The running maximum of each row, lane by lane, after one more block of the hidden activations. -/
abbrev maxStep (mx : Vec F S512x128 .f32) (xc : Vec F S512x3584 .fp8e4m3) (xs : Vec F S512x1 .f32) (x1 : Vec F S3584x512 .fp8e4m3)
    (x2 : Vec F S3584x512 .fp8e4m3) (x3 : Vec F S1x512 .f32) (x4 : Vec F S1x512 .f32) : Vec F S512x128 .f32 :=
  k0_pay1 mx (k0_pay14 xc xs x1 x2 x3 x4) (k0_pay15 xc xs x1 x2 x3 x4) (k0_pay16 xc xs x1 x2 x3 x4)

/-- The hidden activations' buffer after block `i 1` of the columns is stored. -/
abbrev putBlock (i : grid0.Coords) (d : Vec F S512x3584 .f32) (h : Vec F S512x512 .f32) : Vec F S512x3584 .f32 :=
  VecWindow.put d ![0, 512 * (i 1).val] S512x512.size h

/-- The body is at the first block of columns. -/
abbrev cond0_0 (i : grid0.Coords) : Prop := k0_cond1 i = 1#1
/-- The body is at the last block of columns. -/
abbrev cond0_1 (i : grid0.Coords) : Prop := k0_cond2 i = 1#1

/-! ## The three runs -/

set_option maxHeartbeats 2000000 in
/-- The first point of a row of blocks: the rows of activations are quantised, the maximum starts anew, and the first block of columns is stored. -/
theorem run_A (c : Dev nD) (i : grid0.Coords) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (hc0 : cond0_0 i) (hc1 : ¬cond0_1 i)
    (x0 : Vec F S512x3584 .bf16) (x1 : Vec F S3584x512 .fp8e4m3) (x2 : Vec F S3584x512 .fp8e4m3) (x3 : Vec F S1x512 .f32) (x4 : Vec F S1x512 .f32) (d7 : Vec F S512x1 .f32) (d8 : Vec F S512x3584 .fp8e4m3) (d11 : Vec F S512x3584 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ owns (c : Thread nD τ) arg11 fullShare d11 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare (codesOf x0) ∗ owns (c : Thread nD τ) arg10 fullShare (scalesOf x0) ∗ owns (c : Thread nD τ) arg11 fullShare (putBlock i d11 (hidden (codesOf x0) (scalesOf x0) x1 x2 x3 x4)) ∗ owns (c : Thread nD τ) arg12 fullShare (maxStep k0_pay11 (codesOf x0) (scalesOf x0) x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part3_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, Hk⟩
  subst hf2; subst hf3; subst hf4; subst hf5; subst hf6; subst hf7; subst hf8; subst hf11
  sl_exec (disch := first | sl_exact hc0 | sl_exact hc1)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; refine (View.read_writes_full _ _ _ _ _).trans ?_; delta run_A.sl.r run_A.sl.r_2; (repeat rw [View.readCov_full]); (repeat rw [View.readAt_full]); try rfl
  isplitl [H10]
  · iexists _; isplitr; swap; · iexact H10
    ipureintro; refine (View.read_writes_full _ _ _ _ _).trans ?_; delta run_A.sl.r_1; (repeat rw [View.readCov_full]); (repeat rw [View.readAt_full]); try rfl
  isplitl [H11]
  · iexists _; isplitr; swap; · iexact H11
    ipureintro; refine (View.read_writes_cons_put _ _ _ _ _ (k0_off1_eq i)).trans ?_; delta run_A.sl.v3 run_A.sl.v5 run_A.sl.H9_1 run_A.sl.H10_1 run_A.sl.r run_A.sl.r_1 run_A.sl.r_2; (repeat rw [View.readCov_full]); (repeat rw [View.readAt_full]); try rfl
  iexists _; isplitr; swap; · iexact H12
  ipureintro; refine (View.read_writes_full _ _ _ _ _).trans ?_; delta run_A.sl.v32 run_A.sl.H12_1 run_A.sl.r_3 run_A.sl.r_4 run_A.sl.r_5 run_A.sl.v3 run_A.sl.v5 run_A.sl.H9_1 run_A.sl.H10_1 run_A.sl.r run_A.sl.r_1 run_A.sl.r_2; (repeat rw [View.readCov_full]); (repeat rw [View.readAt_full]); try rfl

set_option maxHeartbeats 2000000 in
/-- A point in the middle of a row of blocks: one more block of columns is stored and taken into the maximum. -/
theorem run_B (c : Dev nD) (i : grid0.Coords) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (hc0 : ¬cond0_0 i) (hc1 : ¬cond0_1 i)
    (x0 : Vec F S512x3584 .bf16) (x1 : Vec F S3584x512 .fp8e4m3) (x2 : Vec F S3584x512 .fp8e4m3) (x3 : Vec F S1x512 .f32) (x4 : Vec F S1x512 .f32) (d7 : Vec F S512x1 .f32) (d8 : Vec F S512x3584 .fp8e4m3) (xc : Vec F S512x3584 .fp8e4m3) (xs : Vec F S512x1 .f32) (d11 : Vec F S512x3584 .f32) (mx : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare xc ∗ owns (c : Thread nD τ) arg10 fullShare xs ∗ owns (c : Thread nD τ) arg11 fullShare d11 ∗ owns (c : Thread nD τ) arg12 fullShare mx
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare xc ∗ owns (c : Thread nD τ) arg10 fullShare xs ∗ owns (c : Thread nD τ) arg11 fullShare (putBlock i d11 (hidden xc xs x1 x2 x3 x4)) ∗ owns (c : Thread nD τ) arg12 fullShare (maxStep mx xc xs x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | sl_exact hc0 | sl_exact hc1)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; refine (View.read_writes_cons_put _ _ _ _ _ (k0_off1_eq i)).trans ?_; (repeat rw [View.readCov_full]); (repeat rw [View.readAt_full]); try rfl
  iexists _; isplitr; swap; · iexact H12
  ipureintro; refine (View.read_writes_full _ _ _ _ _).trans ?_; delta run_B.sl.r run_B.sl.r_1 run_B.sl.r_2 run_B.sl.r_3; (repeat rw [View.readCov_full]); (repeat rw [View.readAt_full]); try rfl

set_option maxHeartbeats 2000000 in
/-- The last point of a row of blocks: the last block of columns is stored and taken into the maximum, and the hidden rows are quantised. -/
theorem run_C (c : Dev nD) (i : grid0.Coords) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (hc0 : ¬cond0_0 i) (hc1 : cond0_1 i)
    (x0 : Vec F S512x3584 .bf16) (x1 : Vec F S3584x512 .fp8e4m3) (x2 : Vec F S3584x512 .fp8e4m3) (x3 : Vec F S1x512 .f32) (x4 : Vec F S1x512 .f32) (xc : Vec F S512x3584 .fp8e4m3) (xs : Vec F S512x1 .f32) (d11 : Vec F S512x3584 .f32) (mx : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xc ∗ owns (c : Thread nD τ) arg10 fullShare xs ∗ owns (c : Thread nD τ) arg11 fullShare d11 ∗ owns (c : Thread nD τ) arg12 fullShare mx
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay8 (maxStep mx xc xs x1 x2 x3 x4)) ∗ owns (c : Thread nD τ) arg8 fullShare (k0_pay2 (k0_pay9 (maxStep mx xc xs x1 x2 x3 x4)) (putBlock i d11 (hidden xc xs x1 x2 x3 x4))) ∗ owns (c : Thread nD τ) arg9 fullShare xc ∗ owns (c : Thread nD τ) arg10 fullShare xs ∗ owns (c : Thread nD τ) arg11 fullShare (putBlock i d11 (hidden xc xs x1 x2 x3 x4)) ∗ owns (c : Thread nD τ) arg12 fullShare (maxStep mx xc xs x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part3_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf9; subst hf10; subst hf11; subst hf12
  sl_exec (disch := first | sl_exact hc0 | sl_exact hc1)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; refine (View.read_writes_full _ _ _ _ _).trans ?_; refine congrArg k0_pay8 ?_; delta run_C.sl.v48 run_C.sl.H12_1; delta run_C.sl.r run_C.sl.r_1 run_C.sl.r_2 run_C.sl.r_3; (repeat rw [View.readCov_full]); (repeat rw [View.readAt_full]); try rfl
  isplitl [H8]
  · iexists _; isplitr; swap; · iexact H8
    ipureintro; refine (View.read_writes_full _ _ _ _ _).trans ?_; refine congrArg₂ k0_pay2 (congrArg k0_pay9 ?_) ?_
    · delta run_C.sl.v48 run_C.sl.H12_1; delta run_C.sl.r run_C.sl.r_1 run_C.sl.r_2 run_C.sl.r_3; (repeat rw [View.readCov_full]); (repeat rw [View.readAt_full]); try rfl
    · refine (View.readAt_full _ _ _).trans ?_; refine (View.read_writes_cons_put _ _ _ _ _ (k0_off1_eq i)).trans ?_; (repeat rw [View.readCov_full]); (repeat rw [View.readAt_full]); try rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; refine (View.read_writes_cons_put _ _ _ _ _ (k0_off1_eq i)).trans ?_; (repeat rw [View.readCov_full]); (repeat rw [View.readAt_full]); try rfl
  iexists _; isplitr; swap; · iexact H12
  ipureintro; refine (View.read_writes_full _ _ _ _ _).trans ?_; delta run_C.sl.r run_C.sl.r_1 run_C.sl.r_2 run_C.sl.r_3; (repeat rw [View.readCov_full]); (repeat rw [View.readAt_full]); try rfl

end Cert.Kernel.Run

end
-- ==== Proof.Hand.KernelBody.lean ====
module

public import proofs.«01_k».proof.Proof.Hand.KernelRun
public import Idealize.ShloMosaic.Lib.Claim

/-! The kernel's run: what every staging buffer and scratch buffer holds after each grid point, the body's triple at every point, and the run of the whole program. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases in closed form -/

/-- The first block of columns is at the points divisible by 7. -/
theorem hcond0_0 : ∀ t : Fin cfg0.N, cond0_0 (grid0.coords t) ↔ t.val % 7 = 0 :=
  (fun t => by
    have ht : t.val < 56 := Nat.lt_of_lt_of_eq t.isLt N_0
    have e1 : (grid0.coords t 1).val = t.val / 1 % 7 := Pipeline.Grid.coords_val t 1 (by decide) rfl
    simp only [cond0_0, k0_cond1, e1]
    word_cmp : ∀ t : Fin grid0.N, _)

/-- The last block of columns is at the points one below those. -/
theorem hcond0_1 : ∀ t : Fin cfg0.N, cond0_1 (grid0.coords t) ↔ t.val % 7 = 6 :=
  (fun t => by
    have ht : t.val < 56 := Nat.lt_of_lt_of_eq t.isLt N_0
    have e1 : (grid0.coords t 1).val = t.val / 1 % 7 := Pipeline.Grid.coords_val t 1 (by decide) rfl
    simp only [cond0_1, k0_cond2, e1]
    word_cmp : ∀ t : Fin grid0.N, _)

/-- The column coordinate of a point. -/
theorem coord1 (t : Fin cfg0.N) : (grid0.coords t 1).val = t.val % 7 := by
  have e1 : (grid0.coords t 1).val = t.val / 1 % 7 := Pipeline.Grid.coords_val t 1 (by decide) rfl
  rw [e1, Nat.div_one]

/-- The inputs are staged for the body at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Where the body leaves an output alone, where it stores into it, and where it is not written back. -/
theorem idleAt0_5 : ∀ t : Fin cfg0.N, t.val % 7 ≠ 6 → cfg0.idle 5 (grid0.coords t) = true := by decide +kernel
/-- Window 5 is in use at the last block of columns. -/
theorem liveAt0_5 : ∀ t : Fin cfg0.N, t.val % 7 = 6 → cfg0.idle 5 (grid0.coords t) = false := by decide +kernel
/-- Window 6 is idle before the last block of columns. -/
theorem idleAt0_6 : ∀ t : Fin cfg0.N, t.val % 7 ≠ 6 → cfg0.idle 6 (grid0.coords t) = true := by decide +kernel
/-- Window 6 is in use at the last block of columns. -/
theorem liveAt0_6 : ∀ t : Fin cfg0.N, t.val % 7 = 6 → cfg0.idle 6 (grid0.coords t) = false := by decide +kernel
/-- Window 7 is idle after the first block of columns. -/
theorem idleAt0_7 : ∀ t : Fin cfg0.N, t.val % 7 ≠ 0 → cfg0.idle 7 (grid0.coords t) = true := by decide +kernel
/-- Window 7 is in use at the first block of columns. -/
theorem liveAt0_7 : ∀ t : Fin cfg0.N, t.val % 7 = 0 → cfg0.idle 7 (grid0.coords t) = false := by decide +kernel
/-- Window 8 is idle after the first block of columns. -/
theorem idleAt0_8 : ∀ t : Fin cfg0.N, t.val % 7 ≠ 0 → cfg0.idle 8 (grid0.coords t) = true := by decide +kernel
/-- Window 8 is in use at the first block of columns. -/
theorem liveAt0_8 : ∀ t : Fin cfg0.N, t.val % 7 = 0 → cfg0.idle 8 (grid0.coords t) = false := by decide +kernel
/-- Window 5 is not written back before the last block of columns. -/
theorem noFlush0_5 (t : Fin cfg0.N) (h : t.val % 7 ≠ 6) : (cfg0.win 5).flush t = false := by
  rw [Bool.eq_false_iff]; exact fun e => h ((flush0_5 t).mp e)
/-- Window 6 is not written back before the last block of columns. -/
theorem noFlush0_6 (t : Fin cfg0.N) (h : t.val % 7 ≠ 6) : (cfg0.win 6).flush t = false := by
  rw [Bool.eq_false_iff]; exact fun e => h ((flush0_6 t).mp e)
/-- Window 7 is not written back before the last block of columns. -/
theorem noFlush0_7 (t : Fin cfg0.N) (h : t.val % 7 ≠ 6) : (cfg0.win 7).flush t = false := by
  rw [Bool.eq_false_iff]; exact fun e => h ((flush0_7 t).mp e)
/-- Window 8 is not written back before the last block of columns. -/
theorem noFlush0_8 (t : Fin cfg0.N) (h : t.val % 7 ≠ 6) : (cfg0.win 8).flush t = false := by
  rw [Bool.eq_false_iff]; exact fun e => h ((flush0_8 t).mp e)
/-- Window 5 is a result: nothing is fetched for it. -/
theorem noFetch0_5 (t : Fin cfg0.N) : (cfg0.win 5).fetch t = false := rfl
/-- Window 6 is a result: nothing is fetched for it. -/
theorem noFetch0_6 (t : Fin cfg0.N) : (cfg0.win 6).fetch t = false := rfl
/-- Window 7 is a result: nothing is fetched for it. -/
theorem noFetch0_7 (t : Fin cfg0.N) : (cfg0.win 7).fetch t = false := rfl
/-- Window 8 is a result: nothing is fetched for it. -/
theorem noFetch0_8 (t : Fin cfg0.N) : (cfg0.win 8).fetch t = false := rfl

/-- The staging memref of each window at a point, and that it is a whole buffer. -/
abbrev ms0_0 (t : Fin cfg0.N) := win0_0.stage (cfg0.slots t 0)
/-- Window 0's staging buffer is a whole buffer. -/
abbrev hs0_0 (t : Fin cfg0.N) := hstage0_0 ((cfg0.slots t 0).cast nbuf0_0)
/-- Window 1's staging buffer at a point. -/
abbrev ms0_1 (t : Fin cfg0.N) := win0_1.stage (cfg0.slots t 1)
/-- Window 1's staging buffer is a whole buffer. -/
abbrev hs0_1 (t : Fin cfg0.N) := hstage0_1 ((cfg0.slots t 1).cast nbuf0_1)
/-- Window 2's staging buffer at a point. -/
abbrev ms0_2 (t : Fin cfg0.N) := win0_2.stage (cfg0.slots t 2)
/-- Window 2's staging buffer is a whole buffer. -/
abbrev hs0_2 (t : Fin cfg0.N) := hstage0_2 ((cfg0.slots t 2).cast nbuf0_2)
/-- Window 3's staging buffer at a point. -/
abbrev ms0_3 (t : Fin cfg0.N) := win0_3.stage (cfg0.slots t 3)
/-- Window 3's staging buffer is a whole buffer. -/
abbrev hs0_3 (t : Fin cfg0.N) := hstage0_3 ((cfg0.slots t 3).cast nbuf0_3)
/-- Window 4's staging buffer at a point. -/
abbrev ms0_4 (t : Fin cfg0.N) := win0_4.stage (cfg0.slots t 4)
/-- Window 4's staging buffer is a whole buffer. -/
abbrev hs0_4 (t : Fin cfg0.N) := hstage0_4 ((cfg0.slots t 4).cast nbuf0_4)
/-- Window 5's staging buffer at a point. -/
abbrev ms0_5 (t : Fin cfg0.N) := win0_5.stage (cfg0.slots t 5)
/-- Window 5's staging buffer is a whole buffer. -/
abbrev hs0_5 (t : Fin cfg0.N) := hstage0_5 ((cfg0.slots t 5).cast nbuf0_5)
/-- Window 6's staging buffer at a point. -/
abbrev ms0_6 (t : Fin cfg0.N) := win0_6.stage (cfg0.slots t 6)
/-- Window 6's staging buffer is a whole buffer. -/
abbrev hs0_6 (t : Fin cfg0.N) := hstage0_6 ((cfg0.slots t 6).cast nbuf0_6)
/-- Window 7's staging buffer at a point. -/
abbrev ms0_7 (t : Fin cfg0.N) := win0_7.stage (cfg0.slots t 7)
/-- Window 7's staging buffer is a whole buffer. -/
abbrev hs0_7 (t : Fin cfg0.N) := hstage0_7 ((cfg0.slots t 7).cast nbuf0_7)
/-- Window 8's staging buffer at a point. -/
abbrev ms0_8 (t : Fin cfg0.N) := win0_8.stage (cfg0.slots t 8)
/-- Window 8's staging buffer is a whole buffer. -/
abbrev hs0_8 (t : Fin cfg0.N) := hstage0_8 ((cfg0.slots t 8).cast nbuf0_8)

/-- The two scratch buffers. -/
abbrev scM0_0 : Memref sig .tc .vmem S512x3584 .f32 := Memref.whole cc0_scratch0
/-- The scratch buffer of the running maximum. -/
abbrev scM0_1 : Memref sig .tc .vmem S512x128 .f32 := Memref.whole cc0_scratch1

/-- The region's rest is the two scratch buffers at some contents and the generator register. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold -/

/-- The first point of the row of blocks `t` lies in. -/
def base (t : Fin cfg0.N) : Fin cfg0.N := ⟨t.val / 7 * 7, by have := t.isLt; omega⟩

/-- The first point of a row of blocks is its own base. -/
theorem base_of_first (t : Fin cfg0.N) (h : t.val % 7 = 0) : base t = t := Fin.ext (by show t.val / 7 * 7 = t.val; omega)

/-- The point before `t`. -/
abbrev pre (t : Fin cfg0.N) : Fin cfg0.N := ⟨t.val - 1, Nat.lt_of_le_of_lt (Nat.sub_le _ _) t.isLt⟩

/-- A point after the first has the base of the point before it. -/
theorem base_pre (t : Fin cfg0.N) (h : t.val % 7 ≠ 0) : base (pre t) = base t :=
  Fin.ext (by show (t.val - 1) / 7 * 7 = t.val / 7 * 7; omega)

/-- The codes of the rows of activations at point `t`. -/
def codesAt (c : Dev nD) (t : Fin cfg0.N) : Vec F S512x3584 .fp8e4m3 := codesOf (iblk m c 0 (base t))

/-- The scales of the rows of activations at point `t`. -/
def scalesAt (c : Dev nD) (t : Fin cfg0.N) : Vec F S512x1 .f32 := scalesOf (iblk m c 0 (base t))

/-- The block of hidden activations point `t` computes. -/
def hiddenAt (c : Dev nD) (t : Fin cfg0.N) : Vec F S512x512 .f32 :=
  hidden (codesAt m c t) (scalesAt m c t) (iblk m c 1 t) (iblk m c 2 t) (iblk m c 3 t) (iblk m c 4 t)

/-- The running maximum with point `t`'s block taken in. -/
def stepAt (c : Dev nD) (t : Fin cfg0.N) (mx : Vec F S512x128 .f32) : Vec F S512x128 .f32 :=
  maxStep mx (codesAt m c t) (scalesAt m c t) (iblk m c 1 t) (iblk m c 2 t) (iblk m c 3 t) (iblk m c 4 t)

/-- The running maximum after point `n`: it starts from zero at the first point of a row of blocks. -/
def maxAt (c : Dev nD) : (n : ℕ) → n < cfg0.N → Vec F S512x128 .f32
  | 0, h => stepAt m c ⟨0, h⟩ k0_pay11
  | n + 1, h => stepAt m c ⟨n + 1, h⟩ (if (n + 1) % 7 = 0 then k0_pay11 else maxAt c n (Nat.lt_of_succ_lt h))

/-- The running maximum after the first point of a row of blocks: one step from zero. -/
theorem maxAt_first (c : Dev nD) (t : Fin cfg0.N) (h : t.val % 7 = 0) : maxAt m c t.val t.isLt = stepAt m c t k0_pay11 := by
  obtain ⟨n, hn⟩ := t
  cases n with
  | zero => rfl
  | succ n => show stepAt m c _ (if (n + 1) % 7 = 0 then _ else _) = _; rw [if_pos h]

/-- The running maximum after a later point: one step from the point before. -/
theorem maxAt_next (c : Dev nD) (t : Fin cfg0.N) (h : t.val % 7 ≠ 0) :
    maxAt m c t.val t.isLt = stepAt m c t (maxAt m c (t.val - 1) (pre t).isLt) := by
  obtain ⟨n, hn⟩ := t
  cases n with
  | zero => exact absurd (Nat.zero_mod _) h
  | succ n => show stepAt m c _ (if (n + 1) % 7 = 0 then _ else _) = _; rw [if_neg h]; rfl

/-- The point of `t`'s row of blocks that computes column `y 1`. -/
def colPoint (t : Fin cfg0.N) (y : S512x3584.Idx) : Fin cfg0.N :=
  ⟨t.val / 7 * 7 + (y 1).val / 512, by
    have h1 : (y 1).val < 3584 := (y 1).isLt
    have h2 : t.val < 56 := Nat.lt_of_lt_of_eq t.isLt N_0
    exact Nat.lt_of_lt_of_eq (by omega : _ < 56) N_0.symm⟩

/-- Where in its block column `y 1` lies. -/
def inBlock (y : S512x3584.Idx) : S512x512.Idx :=
  Fin.cons (y 0) (Fin.cons ⟨(y 1).val % 512, Nat.mod_lt _ (by decide)⟩ finZeroElim)

/-- The rows of hidden activations of `t`'s row of blocks, all the columns. -/
def rowHidden (c : Dev nD) (t : Fin cfg0.N) : Vec F S512x3584 .f32 := fun y => hiddenAt m c (colPoint t y) (inBlock y)

/-- A point after the first has the rows of the point before it. -/
theorem rowHidden_pre (c : Dev nD) (t : Fin cfg0.N) (h : t.val % 7 ≠ 0) : rowHidden m c (pre t) = rowHidden m c t := by
  funext y
  unfold rowHidden
  rw [show colPoint (pre t) y = colPoint t y from Fin.ext (by
    show (t.val - 1) / 7 * 7 + _ = t.val / 7 * 7 + _; omega)]

/-- The columns of the blocks up to point `t`'s hold the hidden activations. -/
def Filled (c : Dev nD) (t : Fin cfg0.N) (d : Vec F S512x3584 .f32) : Prop :=
  ∀ y : S512x3584.Idx, (y 1).val < 512 * (t.val % 7 + 1) → d y = rowHidden m c t y

/-- Storing point `t`'s block over a buffer that holds the columns before it holds the columns up to it. -/
theorem filled_put (c : Dev nD) (t : Fin cfg0.N) (d : Vec F S512x3584 .f32)
    (hd : ∀ y : S512x3584.Idx, (y 1).val < 512 * (t.val % 7) → d y = rowHidden m c t y) :
    Filled m c t (putBlock (grid0.coords t) d (hiddenAt m c t)) := by
  intro y hy
  have e := coord1 t
  have hy0 : (y 0).val < 512 := (y 0).isLt
  unfold putBlock VecWindow.put
  by_cases hlt : (y 1).val < 512 * (t.val % 7)
  · rw [dif_neg (fun h => by
      have := (h 1).1
      simp only [e, Matrix.cons_val_one, Matrix.cons_val_fin_one] at this
      omega)]
    exact hd y hlt
  · rw [dif_pos (Fin.forall_fin_two.mpr ⟨⟨Nat.zero_le _, by
        show (y 0).val < 0 + 512; omega⟩, by
        show 512 * (grid0.coords t 1).val ≤ (y 1).val ∧ (y 1).val < 512 * (grid0.coords t 1).val + 512
        rw [e]; omega⟩)]
    unfold rowHidden
    have hp : colPoint t y = t := Fin.ext (by show t.val / 7 * 7 + (y 1).val / 512 = t.val; omega)
    rw [hp]
    congr 1
    funext a
    apply Fin.ext
    rw [Rect.unitLocal_val]
    match a with
    | ⟨0, _⟩ => show (y 0).val - 0 = (y 0).val; omega
    | ⟨1, _⟩ => show (y 1).val - 512 * (grid0.coords t 1).val = (y 1).val % 512; rw [e]; omega

/-- At the last block of columns the whole buffer holds the hidden activations. -/
theorem eq_of_filled (c : Dev nD) (t : Fin cfg0.N) (h : t.val % 7 = 6) (d : Vec F S512x3584 .f32) (hd : Filled m c t d) :
    d = rowHidden m c t := by
  funext y
  have h1 : (y 1).val < 3584 := (y 1).isLt
  exact hd y (by omega)

/-- The region's invariant before position `n`: the running maximum as the point before left it, the columns stored so far. -/
def PhiS (c : Dev nD) : (n : ℕ) → n ≤ cfg0.N → sProp 𝕄
  | 0, _ => Pipeline.ΦA spec0 c
  | n + 1, hn => iprop(iprop((∃ d, ⌜Filled m c ⟨n, hn⟩ d⌝ ∗ owns (c : Thread nD τ) scM0_0 fullShare d) ∗ owns (c : Thread nD τ) scM0_1 fullShare (maxAt m c n hn)) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl

/-- After a point the scratch buffers hold what the point left. -/
theorem PhiS_succ (c : Dev nD) (n : ℕ) (hn : n < cfg0.N) :
    PhiS m c (n + 1) hn = iprop(iprop((∃ d, ⌜Filled m c ⟨n, hn⟩ d⌝ ∗ owns (c : Thread nD τ) scM0_0 fullShare d) ∗ owns (c : Thread nD τ) scM0_1 fullShare (maxAt m c n hn)) ∗ (∃ r, prngReg c r)) := rfl

/-- Before a point other than the first the scratch buffers hold what the point before it left. -/
theorem PhiS_pos (c : Dev nD) (t : Fin cfg0.N) (hz : t.val ≠ 0) :
    PhiS m c t.val (Nat.le_of_lt t.isLt) = iprop(iprop((∃ d, ⌜Filled m c (pre t) d⌝ ∗ owns (c : Thread nD τ) scM0_0 fullShare d) ∗ owns (c : Thread nD τ) scM0_1 fullShare (maxAt m c (t.val - 1) (pre t).isLt)) ∗ (∃ r, prngReg c r)) := by
  obtain ⟨n, hn⟩ := t
  cases n with
  | zero => exact absurd rfl hz
  | succ n => rfl

/-- After any point the invariant gives the region's rest back: what the scratch buffers hold is forgotten. -/
theorem PhiS_out (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨⟨%d, %hd, HS0⟩, HS1⟩, Hg⟩
    isplitl [HS0 HS1]
    · isplitl [HS0]
      · iexists _; iexact HS0
      iexists _; iexact HS1
    iexact Hg

/-! ## The pipeline's proof data -/

/-- The proof data: the arrays as the region finds them, each input's buffer at its block, each output's at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay8 (maxAt m c t.val t.isLt)
    | ⟨6, _⟩ => k0_pay2 (k0_pay9 (maxAt m c t.val t.isLt)) (rowHidden m c t)
    | ⟨7, _⟩ => codesAt m c t
    | ⟨8, _⟩ => scalesAt m c t
  Φ t := PhiS m c t.val (Nat.le_of_lt_succ t.isLt)
  q w := Pipeline.shareOf spec0 w
  owed _ := 0

/-- A window's array at the start is the array the region finds. -/
theorem A_eq (c : Dev nD) (w : Fin cfg0.W) : (dats m 0 c).A w = V m c (Pipeline.arrRef spec0 w) := by
  dsimp only [dats]

/-- The condition on the scratch buffers before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
/-- The body leaves input window 1 as it was. -/
theorem after0_1 (c : Dev nD) (t : Fin cfg0.N) : (dats m 0 c).after 1 t = iblk m c 1 t := by dsimp only [dats]
/-- The body leaves input window 2 as it was. -/
theorem after0_2 (c : Dev nD) (t : Fin cfg0.N) : (dats m 0 c).after 2 t = iblk m c 2 t := by dsimp only [dats]
/-- The body leaves input window 3 as it was. -/
theorem after0_3 (c : Dev nD) (t : Fin cfg0.N) : (dats m 0 c).after 3 t = iblk m c 3 t := by dsimp only [dats]
/-- The body leaves input window 4 as it was. -/
theorem after0_4 (c : Dev nD) (t : Fin cfg0.N) : (dats m 0 c).after 4 t = iblk m c 4 t := by dsimp only [dats]
/-- The body leaves the gated rows' scales in window 5. -/
theorem after0_5 (c : Dev nD) (t : Fin cfg0.N) : (dats m 0 c).after 5 t = k0_pay8 (maxAt m c t.val t.isLt) := by dsimp only [dats]
/-- The body leaves the gated rows' codes in window 6. -/
theorem after0_6 (c : Dev nD) (t : Fin cfg0.N) : (dats m 0 c).after 6 t = k0_pay2 (k0_pay9 (maxAt m c t.val t.isLt)) (rowHidden m c t) := by dsimp only [dats]
/-- The body leaves the activations' codes in window 7. -/
theorem after0_7 (c : Dev nD) (t : Fin cfg0.N) : (dats m 0 c).after 7 t = codesAt m c t := by dsimp only [dats]
/-- The body leaves the activations' scales in window 8. -/
theorem after0_8 (c : Dev nD) (t : Fin cfg0.N) : (dats m 0 c).after 8 t = scalesAt m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
/-- The body finds the block of input window 1. -/
theorem before0_1 (c : Dev nD) (t : Fin cfg0.N) (d) : (dats m 0 c).before 1 t d = iblk m c 1 t :=
  before0_1_of m (dats m 0 c) (A_eq m c 1) (after0_1 m c) t d
/-- The body finds the block of input window 2. -/
theorem before0_2 (c : Dev nD) (t : Fin cfg0.N) (d) : (dats m 0 c).before 2 t d = iblk m c 2 t :=
  before0_2_of m (dats m 0 c) (A_eq m c 2) (after0_2 m c) t d
/-- The body finds the block of input window 3. -/
theorem before0_3 (c : Dev nD) (t : Fin cfg0.N) (d) : (dats m 0 c).before 3 t d = iblk m c 3 t :=
  before0_3_of m (dats m 0 c) (A_eq m c 3) (after0_3 m c) t d
/-- The body finds the block of input window 4. -/
theorem before0_4 (c : Dev nD) (t : Fin cfg0.N) (d) : (dats m 0 c).before 4 t d = iblk m c 4 t :=
  before0_4_of m (dats m 0 c) (A_eq m c 4) (after0_4 m c) t d

/-- A point after the first has the codes of the point before it. -/
theorem codesAt_pre (c : Dev nD) (t : Fin cfg0.N) (h : t.val % 7 ≠ 0) : codesAt m c (pre t) = codesAt m c t := by
  unfold codesAt; rw [base_pre t h]

/-- A point after the first has the scales of the point before it. -/
theorem scalesAt_pre (c : Dev nD) (t : Fin cfg0.N) (h : t.val % 7 ≠ 0) : scalesAt m c (pre t) = scalesAt m c t := by
  unfold scalesAt; rw [base_pre t h]

/-- After the first point of a row of blocks the codes' buffer holds the row's codes: nothing writes it back or over it. -/
theorem before0_7 (c : Dev nD) (n : ℕ) : ∀ (hn : n < cfg0.N) (d), n % 7 ≠ 0 → (dats m 0 c).before 7 ⟨n, hn⟩ d = codesAt m c ⟨n, hn⟩ := by
  induction n with
  | zero => intro _ _ h; exact absurd (Nat.zero_mod _) h
  | succ n ih =>
    intro hn d h
    have hN : n + 1 < 56 := Nat.lt_of_lt_of_eq hn N_0
    rw [(dats m 0 c).before_of_pos 7 ⟨n + 1, hn⟩ (Nat.succ_ne_zero n) (noFetch0_7 _) d]
    rw [show (cfg0.win 7).flush ⟨(⟨n + 1, hn⟩ : Fin cfg0.N).val - 1, _⟩ = false from noFlush0_7 ⟨n, Nat.lt_of_succ_lt hn⟩ (by show n % 7 ≠ 6; omega)]
    rw [if_neg Bool.false_ne_true, ← codesAt_pre m c ⟨n + 1, hn⟩ h]
    show (dats m 0 c).left 7 ⟨n, Nat.lt_of_succ_lt hn⟩ d = codesAt m c ⟨n, Nat.lt_of_succ_lt hn⟩
    unfold Dat.left
    by_cases h0 : n % 7 = 0
    · rw [liveAt0_7 ⟨n, Nat.lt_of_succ_lt hn⟩ h0]
      exact after0_7 m c ⟨n, Nat.lt_of_succ_lt hn⟩
    · rw [idleAt0_7 ⟨n, Nat.lt_of_succ_lt hn⟩ h0]
      exact ih (Nat.lt_of_succ_lt hn) d h0

/-- After the first point of a row of blocks the scales' buffer holds the row's scales: nothing writes it back or over it. -/
theorem before0_8 (c : Dev nD) (n : ℕ) : ∀ (hn : n < cfg0.N) (d), n % 7 ≠ 0 → (dats m 0 c).before 8 ⟨n, hn⟩ d = scalesAt m c ⟨n, hn⟩ := by
  induction n with
  | zero => intro _ _ h; exact absurd (Nat.zero_mod _) h
  | succ n ih =>
    intro hn d h
    have hN : n + 1 < 56 := Nat.lt_of_lt_of_eq hn N_0
    rw [(dats m 0 c).before_of_pos 8 ⟨n + 1, hn⟩ (Nat.succ_ne_zero n) (noFetch0_8 _) d]
    rw [show (cfg0.win 8).flush ⟨(⟨n + 1, hn⟩ : Fin cfg0.N).val - 1, _⟩ = false from noFlush0_8 ⟨n, Nat.lt_of_succ_lt hn⟩ (by show n % 7 ≠ 6; omega)]
    rw [if_neg Bool.false_ne_true, ← scalesAt_pre m c ⟨n + 1, hn⟩ h]
    show (dats m 0 c).left 8 ⟨n, Nat.lt_of_succ_lt hn⟩ d = scalesAt m c ⟨n, Nat.lt_of_succ_lt hn⟩
    unfold Dat.left
    by_cases h0 : n % 7 = 0
    · rw [liveAt0_8 ⟨n, Nat.lt_of_succ_lt hn⟩ h0]
      exact after0_8 m c ⟨n, Nat.lt_of_succ_lt hn⟩
    · rw [idleAt0_8 ⟨n, Nat.lt_of_succ_lt hn⟩ h0]
      exact ih (Nat.lt_of_succ_lt hn) d h0

/-! ## The body's triple at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body's triple at the first point of a row of blocks. -/
theorem sound_first (c : Dev nD) (t : Fin cfg0.N) (h0 : t.val % 7 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  have h1 : t.val % 7 ≠ 6 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5 t h1) (noFlush0_5 t h1)]
  rw [Dat.leavesExact_idle (dats m 0 c) 6 t (idleAt0_6 t h1) (noFlush0_6 t h1)]
  rw [show (dats m 0 c).leavesExact 7 t = owns (c : Thread nD τ) (ms0_7 t) fullShare ((dats m 0 c).after 7 t) from by
    unfold Dat.leavesExact; rw [liveAt0_7 t h0], after0_7]
  rw [show (dats m 0 c).leavesExact 8 t = owns (c : Thread nD τ) (ms0_8 t) fullShare ((dats m 0 c).after 8 t) from by
    unfold Dat.leavesExact; rw [liveAt0_8 t h0], after0_8]
  rw [maxAt_first m c t h0, PhiS_castSucc m c t]
  refine (sep_mono_left (PhiS_out m c t.val (Nat.le_of_lt t.isLt))).trans ?_
  rw [PhiA0_eq]
  iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) ((hcond0_0 t).mpr h0) (fun h => h1 ((hcond0_1 t).mp h)) (iblk m c 0 t) (iblk m c 1 t) (iblk m c 2 t) (iblk m c 3 t) (iblk m c 4 t) _ _ e0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  have ec : codesOf (iblk m c 0 t) = codesAt m c t := by unfold codesAt; rw [base_of_first t h0]
  have es : scalesOf (iblk m c 0 t) = scalesAt m c t := by unfold scalesAt; rw [base_of_first t h0]
  rw [ec, es]
  isplitl [HS0 HS1 Hg]
  · isplitl [HS0 HS1]
    · isplitl [HS0]
      · iexists _; isplitr; swap; · iexact HS0
        ipureintro; exact filled_put m c t e0 (fun y hy => absurd hy (by rw [h0]; omega))
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 4000000 in
/-- The body's triple in the middle of a row of blocks. -/
theorem sound_middle (c : Dev nD) (t : Fin cfg0.N) (h0 : t.val % 7 ≠ 0) (h1 : t.val % 7 ≠ 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  have hz : t.val ≠ 0 := fun e => h0 (by rw [e])
  have b7 : ∀ d, (dats m 0 c).before 7 t d = codesAt m c t := fun d => before0_7 m c t.val t.isLt d h0
  have b8 : ∀ d, (dats m 0 c).before 8 t d = scalesAt m c t := fun d => before0_8 m c t.val t.isLt d h0
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5 t h1) (noFlush0_5 t h1)]
  rw [Dat.leavesExact_idle (dats m 0 c) 6 t (idleAt0_6 t h1) (noFlush0_6 t h1)]
  rw [Dat.leavesExact_idle (dats m 0 c) 7 t (idleAt0_7 t h0) (noFlush0_7 t h1)]
  rw [Dat.leavesExact_idle (dats m 0 c) 8 t (idleAt0_8 t h0) (noFlush0_8 t h1)]
  simp only [b7, b8]
  rw [maxAt_next m c t h0, PhiS_castSucc m c t, PhiS_pos m c t hz]
  iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hf : Filled m c t (putBlock (grid0.coords t) e0 (hiddenAt m c t)) := filled_put m c t e0 (fun y hy => by
    rw [← rowHidden_pre m c t h0]
    exact he0 y (by show (y 1).val < 512 * ((t.val - 1) % 7 + 1); omega))
  iapply (run_B c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) (fun h => h0 ((hcond0_0 t).mp h)) (fun h => h1 ((hcond0_1 t).mp h)) (iblk m c 0 t) (iblk m c 1 t) (iblk m c 2 t) (iblk m c 3 t) (iblk m c 4 t) _ _ (codesAt m c t) (scalesAt m c t) e0 (maxAt m c (t.val - 1) (pre t).isLt) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro; exact hf
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

set_option maxHeartbeats 4000000 in
/-- The body's triple at the last point of a row of blocks. -/
theorem sound_last (c : Dev nD) (t : Fin cfg0.N) (h1 : t.val % 7 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  have h0 : t.val % 7 ≠ 0 := by omega
  have hz : t.val ≠ 0 := fun e => h0 (by rw [e])
  have b7 : ∀ d, (dats m 0 c).before 7 t d = codesAt m c t := fun d => before0_7 m c t.val t.isLt d h0
  have b8 : ∀ d, (dats m 0 c).before 8 t d = scalesAt m c t := fun d => before0_8 m c t.val t.isLt d h0
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t h1], after0_5]
  rw [show (dats m 0 c).leavesExact 6 t = owns (c : Thread nD τ) (ms0_6 t) fullShare ((dats m 0 c).after 6 t) from by
    unfold Dat.leavesExact; rw [liveAt0_6 t h1], after0_6]
  rw [show (dats m 0 c).leavesExact 7 t = owns (c : Thread nD τ) (ms0_7 t) fullShare ((dats m 0 c).after 7 t) from by
    unfold Dat.leavesExact; rw [idleAt0_7 t h0, (flush0_7 t).mpr h1], after0_7]
  rw [show (dats m 0 c).leavesExact 8 t = owns (c : Thread nD τ) (ms0_8 t) fullShare ((dats m 0 c).after 8 t) from by
    unfold Dat.leavesExact; rw [idleAt0_8 t h0, (flush0_8 t).mpr h1], after0_8]
  simp only [b7, b8]
  rw [maxAt_next m c t h0, PhiS_castSucc m c t, PhiS_pos m c t hz]
  iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hf : Filled m c t (putBlock (grid0.coords t) e0 (hiddenAt m c t)) := filled_put m c t e0 (fun y hy => by
    rw [← rowHidden_pre m c t h0]
    exact he0 y (by show (y 1).val < 512 * ((t.val - 1) % 7 + 1); omega))
  iapply (run_C c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) (fun h => h0 ((hcond0_0 t).mp h)) ((hcond0_1 t).mpr h1) (iblk m c 0 t) (iblk m c 1 t) (iblk m c 2 t) (iblk m c 3 t) (iblk m c 4 t) (codesAt m c t) (scalesAt m c t) e0 (maxAt m c (t.val - 1) (pre t).isLt) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  isplitl [HS1]; · iexact HS1
  rw [show putBlock (grid0.coords t) e0 (hidden (codesAt m c t) (scalesAt m c t) (iblk m c 1 t) (iblk m c 2 t) (iblk m c 3 t) (iblk m c 4 t)) = rowHidden m c t from eq_of_filled m c t h1 _ hf]
  iintro ⟨H0, H1, H2, H3, H4, H5, H6, H7, H8, HS0, HS1⟩
  isplitl [HS0 HS1 Hg]
  · isplitl [HS0 HS1]
    · isplitl [HS0]
      · iexists _; isplitr; swap; · iexact HS0
        ipureintro; exact fun _ _ => rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 7 = 0
  · exact sound_first m c t h0
  · by_cases h1 : t.val % 7 = 6
    · exact sound_last m c t h1
    · exact sound_middle m c t h0 h1

/-- The body's row of the table at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := Idealize.SL.BI.Entails.refl _

/-- The invariant after the last point gives the region's rest back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

/-! ## The run and the frame -/

set_option backward.isDefEq.respectTransparency.types false in
/-- Every fair run of the program ends, with the arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every fair run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.Hand.KernelIdealRun.lean ====
module

public import proofs.«01_k».proof.Proof.Gen.KernelIdeal.Skeleton
public import proofs.«01_k».proof.Proof.Gen.KernelIdeal.Frame
public import Idealize.ShloMosaic.Lib.VecWindow
public import proofs.«01_k».proof.Proof.Hand.KernelRun

/-! What the kernel's body does at one grid point, in its three cases: the first point of a row of blocks, a point in the middle, and the last one. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The values the body computes -/

/-- The codes of a block of the activations, rows quantised one by one. -/
abbrev codesOf (x0 : Vec F S512x3584 .bf16) : Vec F S512x3584 .fp8e4m3 := k0_pay10 (k0_pay3 x0) (k0_pay6 x0)

/-- The scales of a block of the activations, one a row. -/
abbrev scalesOf (x0 : Vec F S512x3584 .bf16) : Vec F S512x1 .f32 := k0_pay5 x0

/-- One block of the hidden activations, from the codes and scales of the rows and the two weight blocks. -/
abbrev hidden (xc : Vec F S512x3584 .fp8e4m3) (xs : Vec F S512x1 .f32) (x1 : Vec F S3584x512 .fp8e4m3) (x2 : Vec F S3584x512 .fp8e4m3)
    (x3 : Vec F S1x512 .f32) (x4 : Vec F S1x512 .f32) : Vec F S512x512 .f32 := k0_pay13 xc xs x1 x2 x3 x4

/-- The running maximum of each row, lane by lane, after one more block of the hidden activations. -/
abbrev maxStep (mx : Vec F S512x128 .f32) (xc : Vec F S512x3584 .fp8e4m3) (xs : Vec F S512x1 .f32) (x1 : Vec F S3584x512 .fp8e4m3)
    (x2 : Vec F S3584x512 .fp8e4m3) (x3 : Vec F S1x512 .f32) (x4 : Vec F S1x512 .f32) : Vec F S512x128 .f32 :=
  k0_pay1 mx (k0_pay14 xc xs x1 x2 x3 x4) (k0_pay15 xc xs x1 x2 x3 x4) (k0_pay16 xc xs x1 x2 x3 x4)

/-- The hidden activations' buffer after block `i 1` of the columns is stored. -/
abbrev putBlock (i : grid0.Coords) (d : Vec F S512x3584 .f32) (h : Vec F S512x512 .f32) : Vec F S512x3584 .f32 :=
  VecWindow.put d ![0, 512 * (i 1).val] S512x512.size h

/-- The body is at the first block of columns. -/
abbrev cond0_0 (i : grid0.Coords) : Prop := k0_cond1 i = 1#1
/-- The body is at the last block of columns. -/
abbrev cond0_1 (i : grid0.Coords) : Prop := k0_cond2 i = 1#1

/-! ## The three runs -/

set_option maxHeartbeats 2000000 in
/-- The first point of a row of blocks: the rows of activations are quantised, the maximum starts anew, and the first block of columns is stored. -/
theorem run_A (c : Dev nD) (i : grid0.Coords) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (hc0 : cond0_0 i) (hc1 : ¬cond0_1 i)
    (x0 : Vec F S512x3584 .bf16) (x1 : Vec F S3584x512 .fp8e4m3) (x2 : Vec F S3584x512 .fp8e4m3) (x3 : Vec F S1x512 .f32) (x4 : Vec F S1x512 .f32) (d7 : Vec F S512x1 .f32) (d8 : Vec F S512x3584 .fp8e4m3) (d11 : Vec F S512x3584 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ (∃ d, owns (c : Thread nD τ) arg9 fullShare d) ∗ (∃ d, owns (c : Thread nD τ) arg10 fullShare d) ∗ owns (c : Thread nD τ) arg11 fullShare d11 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare (codesOf x0) ∗ owns (c : Thread nD τ) arg10 fullShare (scalesOf x0) ∗ owns (c : Thread nD τ) arg11 fullShare (putBlock i d11 (hidden (codesOf x0) (scalesOf x0) x1 x2 x3 x4)) ∗ owns (c : Thread nD τ) arg12 fullShare (maxStep k0_pay11 (codesOf x0) (scalesOf x0) x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part3_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, Hk⟩
  subst hf2; subst hf3; subst hf4; subst hf5; subst hf6; subst hf7; subst hf8; subst hf11
  sl_exec (disch := first | sl_exact hc0 | sl_exact hc1)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; refine (View.read_writes_full _ _ _ _ _).trans ?_; delta run_A.sl.r run_A.sl.r_2; (repeat rw [View.readCov_full]); (repeat rw [View.readAt_full]); try rfl
  isplitl [H10]
  · iexists _; isplitr; swap; · iexact H10
    ipureintro; refine (View.read_writes_full _ _ _ _ _).trans ?_; delta run_A.sl.r_1; (repeat rw [View.readCov_full]); (repeat rw [View.readAt_full]); try rfl
  isplitl [H11]
  · iexists _; isplitr; swap; · iexact H11
    ipureintro; refine (View.read_writes_cons_put _ _ _ _ _ (k0_off1_eq i)).trans ?_; delta run_A.sl.v3 run_A.sl.v5 run_A.sl.H9_1 run_A.sl.H10_1 run_A.sl.r run_A.sl.r_1 run_A.sl.r_2; (repeat rw [View.readCov_full]); (repeat rw [View.readAt_full]); try rfl
  iexists _; isplitr; swap; · iexact H12
  ipureintro; refine (View.read_writes_full _ _ _ _ _).trans ?_; delta run_A.sl.v32 run_A.sl.H12_1 run_A.sl.r_3 run_A.sl.r_4 run_A.sl.r_5 run_A.sl.v3 run_A.sl.v5 run_A.sl.H9_1 run_A.sl.H10_1 run_A.sl.r run_A.sl.r_1 run_A.sl.r_2; (repeat rw [View.readCov_full]); (repeat rw [View.readAt_full]); try rfl

set_option maxHeartbeats 2000000 in
/-- A point in the middle of a row of blocks: one more block of columns is stored and taken into the maximum. -/
theorem run_B (c : Dev nD) (i : grid0.Coords) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (hc0 : ¬cond0_0 i) (hc1 : ¬cond0_1 i)
    (x0 : Vec F S512x3584 .bf16) (x1 : Vec F S3584x512 .fp8e4m3) (x2 : Vec F S3584x512 .fp8e4m3) (x3 : Vec F S1x512 .f32) (x4 : Vec F S1x512 .f32) (d7 : Vec F S512x1 .f32) (d8 : Vec F S512x3584 .fp8e4m3) (xc : Vec F S512x3584 .fp8e4m3) (xs : Vec F S512x1 .f32) (d11 : Vec F S512x3584 .f32) (mx : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare xc ∗ owns (c : Thread nD τ) arg10 fullShare xs ∗ owns (c : Thread nD τ) arg11 fullShare d11 ∗ owns (c : Thread nD τ) arg12 fullShare mx
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare xc ∗ owns (c : Thread nD τ) arg10 fullShare xs ∗ owns (c : Thread nD τ) arg11 fullShare (putBlock i d11 (hidden xc xs x1 x2 x3 x4)) ∗ owns (c : Thread nD τ) arg12 fullShare (maxStep mx xc xs x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf7; subst hf8; subst hf9; subst hf10; subst hf11; subst hf12
  sl_exec (disch := first | sl_exact hc0 | sl_exact hc1)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; refine (View.read_writes_cons_put _ _ _ _ _ (k0_off1_eq i)).trans ?_; (repeat rw [View.readCov_full]); (repeat rw [View.readAt_full]); try rfl
  iexists _; isplitr; swap; · iexact H12
  ipureintro; refine (View.read_writes_full _ _ _ _ _).trans ?_; delta run_B.sl.r run_B.sl.r_1 run_B.sl.r_2 run_B.sl.r_3; (repeat rw [View.readCov_full]); (repeat rw [View.readAt_full]); try rfl

set_option maxHeartbeats 2000000 in
/-- The last point of a row of blocks: the last block of columns is stored and taken into the maximum, and the hidden rows are quantised. -/
theorem run_C (c : Dev nD) (i : grid0.Coords) (arg2 : Memref sig .tc .vmem S512x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x3584 .fp8e4m3) (harg8 : arg8.IsWhole) (arg9 : Memref sig .tc .vmem S512x3584 .fp8e4m3) (harg9 : arg9.IsWhole) (arg10 : Memref sig .tc .vmem S512x1 .f32) (harg10 : arg10.IsWhole) (arg11 : Memref sig .tc .vmem S512x3584 .f32) (harg11 : arg11.IsWhole) (arg12 : Memref sig .tc .vmem S512x128 .f32) (harg12 : arg12.IsWhole)
    (hc0 : ¬cond0_0 i) (hc1 : cond0_1 i)
    (x0 : Vec F S512x3584 .bf16) (x1 : Vec F S3584x512 .fp8e4m3) (x2 : Vec F S3584x512 .fp8e4m3) (x3 : Vec F S1x512 .f32) (x4 : Vec F S1x512 .f32) (xc : Vec F S512x3584 .fp8e4m3) (xs : Vec F S512x1 .f32) (d11 : Vec F S512x3584 .f32) (mx : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xc ∗ owns (c : Thread nD τ) arg10 fullShare xs ∗ owns (c : Thread nD τ) arg11 fullShare d11 ∗ owns (c : Thread nD τ) arg12 fullShare mx
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay8 (maxStep mx xc xs x1 x2 x3 x4)) ∗ owns (c : Thread nD τ) arg8 fullShare (k0_pay2 (k0_pay9 (maxStep mx xc xs x1 x2 x3 x4)) (putBlock i d11 (hidden xc xs x1 x2 x3 x4))) ∗ owns (c : Thread nD τ) arg9 fullShare xc ∗ owns (c : Thread nD τ) arg10 fullShare xs ∗ owns (c : Thread nD τ) arg11 fullShare (putBlock i d11 (hidden xc xs x1 x2 x3 x4)) ∗ owns (c : Thread nD τ) arg12 fullShare (maxStep mx xc xs x1 x2 x3 x4)) -∗ K ⟨⟩))
      ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part3_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  subst hf2; subst hf3; subst hf4; subst hf5; subst hf6; subst hf9; subst hf10; subst hf11; subst hf12
  sl_exec (disch := first | sl_exact hc0 | sl_exact hc1)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; refine (View.read_writes_full _ _ _ _ _).trans ?_; refine congrArg k0_pay8 ?_; delta run_C.sl.v48 run_C.sl.H12_1; delta run_C.sl.r run_C.sl.r_1 run_C.sl.r_2 run_C.sl.r_3; (repeat rw [View.readCov_full]); (repeat rw [View.readAt_full]); try rfl
  isplitl [H8]
  · iexists _; isplitr; swap; · iexact H8
    ipureintro; refine (View.read_writes_full _ _ _ _ _).trans ?_; refine congrArg₂ k0_pay2 (congrArg k0_pay9 ?_) ?_
    · delta run_C.sl.v48 run_C.sl.H12_1; delta run_C.sl.r run_C.sl.r_1 run_C.sl.r_2 run_C.sl.r_3; (repeat rw [View.readCov_full]); (repeat rw [View.readAt_full]); try rfl
    · refine (View.readAt_full _ _ _).trans ?_; refine (View.read_writes_cons_put _ _ _ _ _ (k0_off1_eq i)).trans ?_; (repeat rw [View.readCov_full]); (repeat rw [View.readAt_full]); try rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; refine (View.read_writes_cons_put _ _ _ _ _ (k0_off1_eq i)).trans ?_; (repeat rw [View.readCov_full]); (repeat rw [View.readAt_full]); try rfl
  iexists _; isplitr; swap; · iexact H12
  ipureintro; refine (View.read_writes_full _ _ _ _ _).trans ?_; delta run_C.sl.r run_C.sl.r_1 run_C.sl.r_2 run_C.sl.r_3; (repeat rw [View.readCov_full]); (repeat rw [View.readAt_full]); try rfl

end Cert.KernelIdeal.Run

end
-- ==== Proof.Hand.KernelIdealBody.lean ====
module

public import proofs.«01_k».proof.Proof.Hand.KernelIdealRun
public import Idealize.ShloMosaic.Lib.Claim
public import proofs.«01_k».proof.Proof.Hand.KernelBody

/-! The kernel's run: what every staging buffer and scratch buffer holds after each grid point, the body's triple at every point, and the run of the whole program. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases in closed form -/

/-- The first block of columns is at the points divisible by 7. -/
theorem hcond0_0 : ∀ t : Fin cfg0.N, cond0_0 (grid0.coords t) ↔ t.val % 7 = 0 :=
  (fun t => by
    have ht : t.val < 56 := Nat.lt_of_lt_of_eq t.isLt N_0
    have e1 : (grid0.coords t 1).val = t.val / 1 % 7 := Pipeline.Grid.coords_val t 1 (by decide) rfl
    simp only [cond0_0, k0_cond1, e1]
    word_cmp : ∀ t : Fin grid0.N, _)

/-- The last block of columns is at the points one below those. -/
theorem hcond0_1 : ∀ t : Fin cfg0.N, cond0_1 (grid0.coords t) ↔ t.val % 7 = 6 :=
  (fun t => by
    have ht : t.val < 56 := Nat.lt_of_lt_of_eq t.isLt N_0
    have e1 : (grid0.coords t 1).val = t.val / 1 % 7 := Pipeline.Grid.coords_val t 1 (by decide) rfl
    simp only [cond0_1, k0_cond2, e1]
    word_cmp : ∀ t : Fin grid0.N, _)

/-- The column coordinate of a point. -/
theorem coord1 (t : Fin cfg0.N) : (grid0.coords t 1).val = t.val % 7 := by
  have e1 : (grid0.coords t 1).val = t.val / 1 % 7 := Pipeline.Grid.coords_val t 1 (by decide) rfl
  rw [e1, Nat.div_one]

/-- The inputs are staged for the body at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Where the body leaves an output alone, where it stores into it, and where it is not written back. -/
theorem idleAt0_5 : ∀ t : Fin cfg0.N, t.val % 7 ≠ 6 → cfg0.idle 5 (grid0.coords t) = true := by decide +kernel
/-- Window 5 is in use at the last block of columns. -/
theorem liveAt0_5 : ∀ t : Fin cfg0.N, t.val % 7 = 6 → cfg0.idle 5 (grid0.coords t) = false := by decide +kernel
/-- Window 6 is idle before the last block of columns. -/
theorem idleAt0_6 : ∀ t : Fin cfg0.N, t.val % 7 ≠ 6 → cfg0.idle 6 (grid0.coords t) = true := by decide +kernel
/-- Window 6 is in use at the last block of columns. -/
theorem liveAt0_6 : ∀ t : Fin cfg0.N, t.val % 7 = 6 → cfg0.idle 6 (grid0.coords t) = false := by decide +kernel
/-- Window 7 is idle after the first block of columns. -/
theorem idleAt0_7 : ∀ t : Fin cfg0.N, t.val % 7 ≠ 0 → cfg0.idle 7 (grid0.coords t) = true := by decide +kernel
/-- Window 7 is in use at the first block of columns. -/
theorem liveAt0_7 : ∀ t : Fin cfg0.N, t.val % 7 = 0 → cfg0.idle 7 (grid0.coords t) = false := by decide +kernel
/-- Window 8 is idle after the first block of columns. -/
theorem idleAt0_8 : ∀ t : Fin cfg0.N, t.val % 7 ≠ 0 → cfg0.idle 8 (grid0.coords t) = true := by decide +kernel
/-- Window 8 is in use at the first block of columns. -/
theorem liveAt0_8 : ∀ t : Fin cfg0.N, t.val % 7 = 0 → cfg0.idle 8 (grid0.coords t) = false := by decide +kernel
/-- Window 5 is not written back before the last block of columns. -/
theorem noFlush0_5 (t : Fin cfg0.N) (h : t.val % 7 ≠ 6) : (cfg0.win 5).flush t = false := by
  rw [Bool.eq_false_iff]; exact fun e => h ((flush0_5 t).mp e)
/-- Window 6 is not written back before the last block of columns. -/
theorem noFlush0_6 (t : Fin cfg0.N) (h : t.val % 7 ≠ 6) : (cfg0.win 6).flush t = false := by
  rw [Bool.eq_false_iff]; exact fun e => h ((flush0_6 t).mp e)
/-- Window 7 is not written back before the last block of columns. -/
theorem noFlush0_7 (t : Fin cfg0.N) (h : t.val % 7 ≠ 6) : (cfg0.win 7).flush t = false := by
  rw [Bool.eq_false_iff]; exact fun e => h ((flush0_7 t).mp e)
/-- Window 8 is not written back before the last block of columns. -/
theorem noFlush0_8 (t : Fin cfg0.N) (h : t.val % 7 ≠ 6) : (cfg0.win 8).flush t = false := by
  rw [Bool.eq_false_iff]; exact fun e => h ((flush0_8 t).mp e)
/-- Window 5 is a result: nothing is fetched for it. -/
theorem noFetch0_5 (t : Fin cfg0.N) : (cfg0.win 5).fetch t = false := rfl
/-- Window 6 is a result: nothing is fetched for it. -/
theorem noFetch0_6 (t : Fin cfg0.N) : (cfg0.win 6).fetch t = false := rfl
/-- Window 7 is a result: nothing is fetched for it. -/
theorem noFetch0_7 (t : Fin cfg0.N) : (cfg0.win 7).fetch t = false := rfl
/-- Window 8 is a result: nothing is fetched for it. -/
theorem noFetch0_8 (t : Fin cfg0.N) : (cfg0.win 8).fetch t = false := rfl

/-- The staging memref of each window at a point, and that it is a whole buffer. -/
abbrev ms0_0 (t : Fin cfg0.N) := win0_0.stage (cfg0.slots t 0)
/-- Window 0's staging buffer is a whole buffer. -/
abbrev hs0_0 (t : Fin cfg0.N) := hstage0_0 ((cfg0.slots t 0).cast nbuf0_0)
/-- Window 1's staging buffer at a point. -/
abbrev ms0_1 (t : Fin cfg0.N) := win0_1.stage (cfg0.slots t 1)
/-- Window 1's staging buffer is a whole buffer. -/
abbrev hs0_1 (t : Fin cfg0.N) := hstage0_1 ((cfg0.slots t 1).cast nbuf0_1)
/-- Window 2's staging buffer at a point. -/
abbrev ms0_2 (t : Fin cfg0.N) := win0_2.stage (cfg0.slots t 2)
/-- Window 2's staging buffer is a whole buffer. -/
abbrev hs0_2 (t : Fin cfg0.N) := hstage0_2 ((cfg0.slots t 2).cast nbuf0_2)
/-- Window 3's staging buffer at a point. -/
abbrev ms0_3 (t : Fin cfg0.N) := win0_3.stage (cfg0.slots t 3)
/-- Window 3's staging buffer is a whole buffer. -/
abbrev hs0_3 (t : Fin cfg0.N) := hstage0_3 ((cfg0.slots t 3).cast nbuf0_3)
/-- Window 4's staging buffer at a point. -/
abbrev ms0_4 (t : Fin cfg0.N) := win0_4.stage (cfg0.slots t 4)
/-- Window 4's staging buffer is a whole buffer. -/
abbrev hs0_4 (t : Fin cfg0.N) := hstage0_4 ((cfg0.slots t 4).cast nbuf0_4)
/-- Window 5's staging buffer at a point. -/
abbrev ms0_5 (t : Fin cfg0.N) := win0_5.stage (cfg0.slots t 5)
/-- Window 5's staging buffer is a whole buffer. -/
abbrev hs0_5 (t : Fin cfg0.N) := hstage0_5 ((cfg0.slots t 5).cast nbuf0_5)
/-- Window 6's staging buffer at a point. -/
abbrev ms0_6 (t : Fin cfg0.N) := win0_6.stage (cfg0.slots t 6)
/-- Window 6's staging buffer is a whole buffer. -/
abbrev hs0_6 (t : Fin cfg0.N) := hstage0_6 ((cfg0.slots t 6).cast nbuf0_6)
/-- Window 7's staging buffer at a point. -/
abbrev ms0_7 (t : Fin cfg0.N) := win0_7.stage (cfg0.slots t 7)
/-- Window 7's staging buffer is a whole buffer. -/
abbrev hs0_7 (t : Fin cfg0.N) := hstage0_7 ((cfg0.slots t 7).cast nbuf0_7)
/-- Window 8's staging buffer at a point. -/
abbrev ms0_8 (t : Fin cfg0.N) := win0_8.stage (cfg0.slots t 8)
/-- Window 8's staging buffer is a whole buffer. -/
abbrev hs0_8 (t : Fin cfg0.N) := hstage0_8 ((cfg0.slots t 8).cast nbuf0_8)

/-- The two scratch buffers. -/
abbrev scM0_0 : Memref sig .tc .vmem S512x3584 .f32 := Memref.whole cc0_scratch0
/-- The scratch buffer of the running maximum. -/
abbrev scM0_1 : Memref sig .tc .vmem S512x128 .f32 := Memref.whole cc0_scratch1

/-- The region's rest is the two scratch buffers at some contents and the generator register. -/
theorem PhiA0_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold -/

/-- The first point of the row of blocks `t` lies in. -/
def base (t : Fin cfg0.N) : Fin cfg0.N := ⟨t.val / 7 * 7, by have := t.isLt; omega⟩

/-- The first point of a row of blocks is its own base. -/
theorem base_of_first (t : Fin cfg0.N) (h : t.val % 7 = 0) : base t = t := Fin.ext (by show t.val / 7 * 7 = t.val; omega)

/-- The point before `t`. -/
abbrev pre (t : Fin cfg0.N) : Fin cfg0.N := ⟨t.val - 1, Nat.lt_of_le_of_lt (Nat.sub_le _ _) t.isLt⟩

/-- A point after the first has the base of the point before it. -/
theorem base_pre (t : Fin cfg0.N) (h : t.val % 7 ≠ 0) : base (pre t) = base t :=
  Fin.ext (by show (t.val - 1) / 7 * 7 = t.val / 7 * 7; omega)

/-- The codes of the rows of activations at point `t`. -/
def codesAt (c : Dev nD) (t : Fin cfg0.N) : Vec F S512x3584 .fp8e4m3 := codesOf (iblk m c 0 (base t))

/-- The scales of the rows of activations at point `t`. -/
def scalesAt (c : Dev nD) (t : Fin cfg0.N) : Vec F S512x1 .f32 := scalesOf (iblk m c 0 (base t))

/-- The block of hidden activations point `t` computes. -/
def hiddenAt (c : Dev nD) (t : Fin cfg0.N) : Vec F S512x512 .f32 :=
  hidden (codesAt m c t) (scalesAt m c t) (iblk m c 1 t) (iblk m c 2 t) (iblk m c 3 t) (iblk m c 4 t)

/-- The running maximum with point `t`'s block taken in. -/
def stepAt (c : Dev nD) (t : Fin cfg0.N) (mx : Vec F S512x128 .f32) : Vec F S512x128 .f32 :=
  maxStep mx (codesAt m c t) (scalesAt m c t) (iblk m c 1 t) (iblk m c 2 t) (iblk m c 3 t) (iblk m c 4 t)

/-- The running maximum after point `n`: it starts from zero at the first point of a row of blocks. -/
def maxAt (c : Dev nD) : (n : ℕ) → n < cfg0.N → Vec F S512x128 .f32
  | 0, h => stepAt m c ⟨0, h⟩ k0_pay11
  | n + 1, h => stepAt m c ⟨n + 1, h⟩ (if (n + 1) % 7 = 0 then k0_pay11 else maxAt c n (Nat.lt_of_succ_lt h))

/-- The running maximum after the first point of a row of blocks: one step from zero. -/
theorem maxAt_first (c : Dev nD) (t : Fin cfg0.N) (h : t.val % 7 = 0) : maxAt m c t.val t.isLt = stepAt m c t k0_pay11 := by
  obtain ⟨n, hn⟩ := t
  cases n with
  | zero => rfl
  | succ n => show stepAt m c _ (if (n + 1) % 7 = 0 then _ else _) = _; rw [if_pos h]

/-- The running maximum after a later point: one step from the point before. -/
theorem maxAt_next (c : Dev nD) (t : Fin cfg0.N) (h : t.val % 7 ≠ 0) :
    maxAt m c t.val t.isLt = stepAt m c t (maxAt m c (t.val - 1) (pre t).isLt) := by
  obtain ⟨n, hn⟩ := t
  cases n with
  | zero => exact absurd (Nat.zero_mod _) h
  | succ n => show stepAt m c _ (if (n + 1) % 7 = 0 then _ else _) = _; rw [if_neg h]; rfl

/-- The point of `t`'s row of blocks that computes column `y 1`. -/
def colPoint (t : Fin cfg0.N) (y : S512x3584.Idx) : Fin cfg0.N :=
  ⟨t.val / 7 * 7 + (y 1).val / 512, by
    have h1 : (y 1).val < 3584 := (y 1).isLt
    have h2 : t.val < 56 := Nat.lt_of_lt_of_eq t.isLt N_0
    exact Nat.lt_of_lt_of_eq (by omega : _ < 56) N_0.symm⟩

/-- Where in its block column `y 1` lies. -/
def inBlock (y : S512x3584.Idx) : S512x512.Idx :=
  Fin.cons (y 0) (Fin.cons ⟨(y 1).val % 512, Nat.mod_lt _ (by decide)⟩ finZeroElim)

/-- The rows of hidden activations of `t`'s row of blocks, all the columns. -/
def rowHidden (c : Dev nD) (t : Fin cfg0.N) : Vec F S512x3584 .f32 := fun y => hiddenAt m c (colPoint t y) (inBlock y)

/-- A point after the first has the rows of the point before it. -/
theorem rowHidden_pre (c : Dev nD) (t : Fin cfg0.N) (h : t.val % 7 ≠ 0) : rowHidden m c (pre t) = rowHidden m c t := by
  funext y
  unfold rowHidden
  rw [show colPoint (pre t) y = colPoint t y from Fin.ext (by
    show (t.val - 1) / 7 * 7 + _ = t.val / 7 * 7 + _; omega)]

/-- The columns of the blocks up to point `t`'s hold the hidden activations. -/
def Filled (c : Dev nD) (t : Fin cfg0.N) (d : Vec F S512x3584 .f32) : Prop :=
  ∀ y : S512x3584.Idx, (y 1).val < 512 * (t.val % 7 + 1) → d y = rowHidden m c t y

/-- Storing point `t`'s block over a buffer that holds the columns before it holds the columns up to it. -/
theorem filled_put (c : Dev nD) (t : Fin cfg0.N) (d : Vec F S512x3584 .f32)
    (hd : ∀ y : S512x3584.Idx, (y 1).val < 512 * (t.val % 7) → d y = rowHidden m c t y) :
    Filled m c t (putBlock (grid0.coords t) d (hiddenAt m c t)) := by
  intro y hy
  have e := coord1 t
  have hy0 : (y 0).val < 512 := (y 0).isLt
  unfold putBlock VecWindow.put
  by_cases hlt : (y 1).val < 512 * (t.val % 7)
  · rw [dif_neg (fun h => by
      have := (h 1).1
      simp only [e, Matrix.cons_val_one, Matrix.cons_val_fin_one] at this
      omega)]
    exact hd y hlt
  · rw [dif_pos (Fin.forall_fin_two.mpr ⟨⟨Nat.zero_le _, by
        show (y 0).val < 0 + 512; omega⟩, by
        show 512 * (grid0.coords t 1).val ≤ (y 1).val ∧ (y 1).val < 512 * (grid0.coords t 1).val + 512
        rw [e]; omega⟩)]
    unfold rowHidden
    have hp : colPoint t y = t := Fin.ext (by show t.val / 7 * 7 + (y 1).val / 512 = t.val; omega)
    rw [hp]
    congr 1
    funext a
    apply Fin.ext
    rw [Rect.unitLocal_val]
    match a with
    | ⟨0, _⟩ => show (y 0).val - 0 = (y 0).val; omega
    | ⟨1, _⟩ => show (y 1).val - 512 * (grid0.coords t 1).val = (y 1).val % 512; rw [e]; omega

/-- At the last block of columns the whole buffer holds the hidden activations. -/
theorem eq_of_filled (c : Dev nD) (t : Fin cfg0.N) (h : t.val % 7 = 6) (d : Vec F S512x3584 .f32) (hd : Filled m c t d) :
    d = rowHidden m c t := by
  funext y
  have h1 : (y 1).val < 3584 := (y 1).isLt
  exact hd y (by omega)

/-- The region's invariant before position `n`: the running maximum as the point before left it, the columns stored so far. -/
def PhiS (c : Dev nD) : (n : ℕ) → n ≤ cfg0.N → sProp 𝕄
  | 0, _ => Pipeline.ΦA spec0 c
  | n + 1, hn => iprop(iprop((∃ d, ⌜Filled m c ⟨n, hn⟩ d⌝ ∗ owns (c : Thread nD τ) scM0_0 fullShare d) ∗ owns (c : Thread nD τ) scM0_1 fullShare (maxAt m c n hn)) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl

/-- After a point the scratch buffers hold what the point left. -/
theorem PhiS_succ (c : Dev nD) (n : ℕ) (hn : n < cfg0.N) :
    PhiS m c (n + 1) hn = iprop(iprop((∃ d, ⌜Filled m c ⟨n, hn⟩ d⌝ ∗ owns (c : Thread nD τ) scM0_0 fullShare d) ∗ owns (c : Thread nD τ) scM0_1 fullShare (maxAt m c n hn)) ∗ (∃ r, prngReg c r)) := rfl

/-- Before a point other than the first the scratch buffers hold what the point before it left. -/
theorem PhiS_pos (c : Dev nD) (t : Fin cfg0.N) (hz : t.val ≠ 0) :
    PhiS m c t.val (Nat.le_of_lt t.isLt) = iprop(iprop((∃ d, ⌜Filled m c (pre t) d⌝ ∗ owns (c : Thread nD τ) scM0_0 fullShare d) ∗ owns (c : Thread nD τ) scM0_1 fullShare (maxAt m c (t.val - 1) (pre t).isLt)) ∗ (∃ r, prngReg c r)) := by
  obtain ⟨n, hn⟩ := t
  cases n with
  | zero => exact absurd rfl hz
  | succ n => rfl

/-- After any point the invariant gives the region's rest back: what the scratch buffers hold is forgotten. -/
theorem PhiS_out (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨⟨%d, %hd, HS0⟩, HS1⟩, Hg⟩
    isplitl [HS0 HS1]
    · isplitl [HS0]
      · iexists _; iexact HS0
      iexists _; iexact HS1
    iexact Hg

/-! ## The pipeline's proof data -/

/-- The proof data: the arrays as the region finds them, each input's buffer at its block, each output's at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay8 (maxAt m c t.val t.isLt)
    | ⟨6, _⟩ => k0_pay2 (k0_pay9 (maxAt m c t.val t.isLt)) (rowHidden m c t)
    | ⟨7, _⟩ => codesAt m c t
    | ⟨8, _⟩ => scalesAt m c t
  Φ t := PhiS m c t.val (Nat.le_of_lt_succ t.isLt)
  q w := Pipeline.shareOf spec0 w
  owed _ := 0

/-- A window's array at the start is the array the region finds. -/
theorem A_eq (c : Dev nD) (w : Fin cfg0.W) : (dats m 0 c).A w = V m c (Pipeline.arrRef spec0 w) := by
  dsimp only [dats]

/-- The condition on the scratch buffers before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
/-- The body leaves input window 1 as it was. -/
theorem after0_1 (c : Dev nD) (t : Fin cfg0.N) : (dats m 0 c).after 1 t = iblk m c 1 t := by dsimp only [dats]
/-- The body leaves input window 2 as it was. -/
theorem after0_2 (c : Dev nD) (t : Fin cfg0.N) : (dats m 0 c).after 2 t = iblk m c 2 t := by dsimp only [dats]
/-- The body leaves input window 3 as it was. -/
theorem after0_3 (c : Dev nD) (t : Fin cfg0.N) : (dats m 0 c).after 3 t = iblk m c 3 t := by dsimp only [dats]
/-- The body leaves input window 4 as it was. -/
theorem after0_4 (c : Dev nD) (t : Fin cfg0.N) : (dats m 0 c).after 4 t = iblk m c 4 t := by dsimp only [dats]
/-- The body leaves the gated rows' scales in window 5. -/
theorem after0_5 (c : Dev nD) (t : Fin cfg0.N) : (dats m 0 c).after 5 t = k0_pay8 (maxAt m c t.val t.isLt) := by dsimp only [dats]
/-- The body leaves the gated rows' codes in window 6. -/
theorem after0_6 (c : Dev nD) (t : Fin cfg0.N) : (dats m 0 c).after 6 t = k0_pay2 (k0_pay9 (maxAt m c t.val t.isLt)) (rowHidden m c t) := by dsimp only [dats]
/-- The body leaves the activations' codes in window 7. -/
theorem after0_7 (c : Dev nD) (t : Fin cfg0.N) : (dats m 0 c).after 7 t = codesAt m c t := by dsimp only [dats]
/-- The body leaves the activations' scales in window 8. -/
theorem after0_8 (c : Dev nD) (t : Fin cfg0.N) : (dats m 0 c).after 8 t = scalesAt m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
/-- The body finds the block of input window 1. -/
theorem before0_1 (c : Dev nD) (t : Fin cfg0.N) (d) : (dats m 0 c).before 1 t d = iblk m c 1 t :=
  before0_1_of m (dats m 0 c) (A_eq m c 1) (after0_1 m c) t d
/-- The body finds the block of input window 2. -/
theorem before0_2 (c : Dev nD) (t : Fin cfg0.N) (d) : (dats m 0 c).before 2 t d = iblk m c 2 t :=
  before0_2_of m (dats m 0 c) (A_eq m c 2) (after0_2 m c) t d
/-- The body finds the block of input window 3. -/
theorem before0_3 (c : Dev nD) (t : Fin cfg0.N) (d) : (dats m 0 c).before 3 t d = iblk m c 3 t :=
  before0_3_of m (dats m 0 c) (A_eq m c 3) (after0_3 m c) t d
/-- The body finds the block of input window 4. -/
theorem before0_4 (c : Dev nD) (t : Fin cfg0.N) (d) : (dats m 0 c).before 4 t d = iblk m c 4 t :=
  before0_4_of m (dats m 0 c) (A_eq m c 4) (after0_4 m c) t d

/-- A point after the first has the codes of the point before it. -/
theorem codesAt_pre (c : Dev nD) (t : Fin cfg0.N) (h : t.val % 7 ≠ 0) : codesAt m c (pre t) = codesAt m c t := by
  unfold codesAt; rw [base_pre t h]

/-- A point after the first has the scales of the point before it. -/
theorem scalesAt_pre (c : Dev nD) (t : Fin cfg0.N) (h : t.val % 7 ≠ 0) : scalesAt m c (pre t) = scalesAt m c t := by
  unfold scalesAt; rw [base_pre t h]

/-- After the first point of a row of blocks the codes' buffer holds the row's codes: nothing writes it back or over it. -/
theorem before0_7 (c : Dev nD) (n : ℕ) : ∀ (hn : n < cfg0.N) (d), n % 7 ≠ 0 → (dats m 0 c).before 7 ⟨n, hn⟩ d = codesAt m c ⟨n, hn⟩ := by
  induction n with
  | zero => intro _ _ h; exact absurd (Nat.zero_mod _) h
  | succ n ih =>
    intro hn d h
    have hN : n + 1 < 56 := Nat.lt_of_lt_of_eq hn N_0
    rw [(dats m 0 c).before_of_pos 7 ⟨n + 1, hn⟩ (Nat.succ_ne_zero n) (noFetch0_7 _) d]
    rw [show (cfg0.win 7).flush ⟨(⟨n + 1, hn⟩ : Fin cfg0.N).val - 1, _⟩ = false from noFlush0_7 ⟨n, Nat.lt_of_succ_lt hn⟩ (by show n % 7 ≠ 6; omega)]
    rw [if_neg Bool.false_ne_true, ← codesAt_pre m c ⟨n + 1, hn⟩ h]
    show (dats m 0 c).left 7 ⟨n, Nat.lt_of_succ_lt hn⟩ d = codesAt m c ⟨n, Nat.lt_of_succ_lt hn⟩
    unfold Dat.left
    by_cases h0 : n % 7 = 0
    · rw [liveAt0_7 ⟨n, Nat.lt_of_succ_lt hn⟩ h0]
      exact after0_7 m c ⟨n, Nat.lt_of_succ_lt hn⟩
    · rw [idleAt0_7 ⟨n, Nat.lt_of_succ_lt hn⟩ h0]
      exact ih (Nat.lt_of_succ_lt hn) d h0

/-- After the first point of a row of blocks the scales' buffer holds the row's scales: nothing writes it back or over it. -/
theorem before0_8 (c : Dev nD) (n : ℕ) : ∀ (hn : n < cfg0.N) (d), n % 7 ≠ 0 → (dats m 0 c).before 8 ⟨n, hn⟩ d = scalesAt m c ⟨n, hn⟩ := by
  induction n with
  | zero => intro _ _ h; exact absurd (Nat.zero_mod _) h
  | succ n ih =>
    intro hn d h
    have hN : n + 1 < 56 := Nat.lt_of_lt_of_eq hn N_0
    rw [(dats m 0 c).before_of_pos 8 ⟨n + 1, hn⟩ (Nat.succ_ne_zero n) (noFetch0_8 _) d]
    rw [show (cfg0.win 8).flush ⟨(⟨n + 1, hn⟩ : Fin cfg0.N).val - 1, _⟩ = false from noFlush0_8 ⟨n, Nat.lt_of_succ_lt hn⟩ (by show n % 7 ≠ 6; omega)]
    rw [if_neg Bool.false_ne_true, ← scalesAt_pre m c ⟨n + 1, hn⟩ h]
    show (dats m 0 c).left 8 ⟨n, Nat.lt_of_succ_lt hn⟩ d = scalesAt m c ⟨n, Nat.lt_of_succ_lt hn⟩
    unfold Dat.left
    by_cases h0 : n % 7 = 0
    · rw [liveAt0_8 ⟨n, Nat.lt_of_succ_lt hn⟩ h0]
      exact after0_8 m c ⟨n, Nat.lt_of_succ_lt hn⟩
    · rw [idleAt0_8 ⟨n, Nat.lt_of_succ_lt hn⟩ h0]
      exact ih (Nat.lt_of_succ_lt hn) d h0

/-! ## The body's triple at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body's triple at the first point of a row of blocks. -/
theorem sound_first (c : Dev nD) (t : Fin cfg0.N) (h0 : t.val % 7 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  have h1 : t.val % 7 ≠ 6 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5 t h1) (noFlush0_5 t h1)]
  rw [Dat.leavesExact_idle (dats m 0 c) 6 t (idleAt0_6 t h1) (noFlush0_6 t h1)]
  rw [show (dats m 0 c).leavesExact 7 t = owns (c : Thread nD τ) (ms0_7 t) fullShare ((dats m 0 c).after 7 t) from by
    unfold Dat.leavesExact; rw [liveAt0_7 t h0], after0_7]
  rw [show (dats m 0 c).leavesExact 8 t = owns (c : Thread nD τ) (ms0_8 t) fullShare ((dats m 0 c).after 8 t) from by
    unfold Dat.leavesExact; rw [liveAt0_8 t h0], after0_8]
  rw [maxAt_first m c t h0, PhiS_castSucc m c t]
  refine (sep_mono_left (PhiS_out m c t.val (Nat.le_of_lt t.isLt))).trans ?_
  rw [PhiA0_eq]
  iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) ((hcond0_0 t).mpr h0) (fun h => h1 ((hcond0_1 t).mp h)) (iblk m c 0 t) (iblk m c 1 t) (iblk m c 2 t) (iblk m c 3 t) (iblk m c 4 t) _ _ e0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  have ec : codesOf (iblk m c 0 t) = codesAt m c t := by unfold codesAt; rw [base_of_first t h0]
  have es : scalesOf (iblk m c 0 t) = scalesAt m c t := by unfold scalesAt; rw [base_of_first t h0]
  rw [ec, es]
  isplitl [HS0 HS1 Hg]
  · isplitl [HS0 HS1]
    · isplitl [HS0]
      · iexists _; isplitr; swap; · iexact HS0
        ipureintro; exact filled_put m c t e0 (fun y hy => absurd hy (by rw [h0]; omega))
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 4000000 in
/-- The body's triple in the middle of a row of blocks. -/
theorem sound_middle (c : Dev nD) (t : Fin cfg0.N) (h0 : t.val % 7 ≠ 0) (h1 : t.val % 7 ≠ 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  have hz : t.val ≠ 0 := fun e => h0 (by rw [e])
  have b7 : ∀ d, (dats m 0 c).before 7 t d = codesAt m c t := fun d => before0_7 m c t.val t.isLt d h0
  have b8 : ∀ d, (dats m 0 c).before 8 t d = scalesAt m c t := fun d => before0_8 m c t.val t.isLt d h0
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt0_5 t h1) (noFlush0_5 t h1)]
  rw [Dat.leavesExact_idle (dats m 0 c) 6 t (idleAt0_6 t h1) (noFlush0_6 t h1)]
  rw [Dat.leavesExact_idle (dats m 0 c) 7 t (idleAt0_7 t h0) (noFlush0_7 t h1)]
  rw [Dat.leavesExact_idle (dats m 0 c) 8 t (idleAt0_8 t h0) (noFlush0_8 t h1)]
  simp only [b7, b8]
  rw [maxAt_next m c t h0, PhiS_castSucc m c t, PhiS_pos m c t hz]
  iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hf : Filled m c t (putBlock (grid0.coords t) e0 (hiddenAt m c t)) := filled_put m c t e0 (fun y hy => by
    rw [← rowHidden_pre m c t h0]
    exact he0 y (by show (y 1).val < 512 * ((t.val - 1) % 7 + 1); omega))
  iapply (run_B c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) (fun h => h0 ((hcond0_0 t).mp h)) (fun h => h1 ((hcond0_1 t).mp h)) (iblk m c 0 t) (iblk m c 1 t) (iblk m c 2 t) (iblk m c 3 t) (iblk m c 4 t) _ _ (codesAt m c t) (scalesAt m c t) e0 (maxAt m c (t.val - 1) (pre t).isLt) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; isplitr; swap; · iexact HS0
        ipureintro; exact hf
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

set_option maxHeartbeats 4000000 in
/-- The body's triple at the last point of a row of blocks. -/
theorem sound_last (c : Dev nD) (t : Fin cfg0.N) (h1 : t.val % 7 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  have h0 : t.val % 7 ≠ 0 := by omega
  have hz : t.val ≠ 0 := fun e => h0 (by rw [e])
  have b7 : ∀ d, (dats m 0 c).before 7 t d = codesAt m c t := fun d => before0_7 m c t.val t.isLt d h0
  have b8 : ∀ d, (dats m 0 c).before 8 t d = scalesAt m c t := fun d => before0_8 m c t.val t.isLt d h0
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t h1], after0_5]
  rw [show (dats m 0 c).leavesExact 6 t = owns (c : Thread nD τ) (ms0_6 t) fullShare ((dats m 0 c).after 6 t) from by
    unfold Dat.leavesExact; rw [liveAt0_6 t h1], after0_6]
  rw [show (dats m 0 c).leavesExact 7 t = owns (c : Thread nD τ) (ms0_7 t) fullShare ((dats m 0 c).after 7 t) from by
    unfold Dat.leavesExact; rw [idleAt0_7 t h0, (flush0_7 t).mpr h1], after0_7]
  rw [show (dats m 0 c).leavesExact 8 t = owns (c : Thread nD τ) (ms0_8 t) fullShare ((dats m 0 c).after 8 t) from by
    unfold Dat.leavesExact; rw [idleAt0_8 t h0, (flush0_8 t).mpr h1], after0_8]
  simp only [b7, b8]
  rw [maxAt_next m c t h0, PhiS_castSucc m c t, PhiS_pos m c t hz]
  iintro ⟨⟨⟨⟨%e0, %he0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hf : Filled m c t (putBlock (grid0.coords t) e0 (hiddenAt m c t)) := filled_put m c t e0 (fun y hy => by
    rw [← rowHidden_pre m c t h0]
    exact he0 y (by show (y 1).val < 512 * ((t.val - 1) % 7 + 1); omega))
  iapply (run_C c (grid0.coords t) _ (hs0_0 t) _ (hs0_1 t) _ (hs0_2 t) _ (hs0_3 t) _ (hs0_4 t) _ (hs0_5 t) _ (hs0_6 t) _ (hs0_7 t) _ (hs0_8 t) _ (Memref.isWhole_whole _) _ (Memref.isWhole_whole _) (fun h => h0 ((hcond0_0 t).mp h)) ((hcond0_1 t).mpr h1) (iblk m c 0 t) (iblk m c 1 t) (iblk m c 2 t) (iblk m c 3 t) (iblk m c 4 t) (codesAt m c t) (scalesAt m c t) e0 (maxAt m c (t.val - 1) (pre t).isLt) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  isplitl [HS1]; · iexact HS1
  rw [show putBlock (grid0.coords t) e0 (hidden (codesAt m c t) (scalesAt m c t) (iblk m c 1 t) (iblk m c 2 t) (iblk m c 3 t) (iblk m c 4 t)) = rowHidden m c t from eq_of_filled m c t h1 _ hf]
  iintro ⟨H0, H1, H2, H3, H4, H5, H6, H7, H8, HS0, HS1⟩
  isplitl [HS0 HS1 Hg]
  · isplitl [HS0 HS1]
    · isplitl [HS0]
      · iexists _; isplitr; swap; · iexact HS0
        ipureintro; exact fun _ _ => rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 7 = 0
  · exact sound_first m c t h0
  · by_cases h1 : t.val % 7 = 6
    · exact sound_last m c t h1
    · exact sound_middle m c t h0 h1

/-- The body's row of the table at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := Idealize.SL.BI.Entails.refl _

/-- The invariant after the last point gives the region's rest back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

/-! ## The run and the frame -/

set_option backward.isDefEq.respectTransparency.types false in
/-- Every fair run of the program ends, with the arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every fair run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Hand.Exponent.lean ====
/-
  The exponent of a quantiser's scale, in two spellings, over the extended reals.

  The reference takes the base-two logarithm of `t = a · c` (`a` the row's greatest absolute value, `c` the 32-bit
  constant nearest 1/448), rounds it down and adds one where `t` lies between the least normal number and `2 ^ 120`, and
  takes zero elsewhere. The kernel counts, among 255 powers of two, those at most `t`, subtracts 126 from the count (or
  takes zero when the count is 0 or 255 or `a` is zero), and builds the scale `2 ^ e` and its reciprocal from the bits of
  the exponent field. This module proves the two scales, and the two reciprocals, equal for EVERY `a`, infinities included.
-/
module

public import Idealize.ShloMosaic.PureOps.Ideal
public import Mathlib.Data.BitVec
public import Mathlib.Analysis.SpecialFunctions.Log.Basic

@[expose] public section

noncomputable section

namespace Cert.Quant

open Idealize.ShloMosaic

/-- The number whose binary exponent the quantiser uses: the greatest absolute value times the constant nearest 1/448. -/
def target (a : EReal) : EReal := a * Ideal.ofBits .f32 0x3B124925#32

/-- The exponent as the reference states it: one more than the floor of the base-two logarithm, zero outside the range. -/
def expo (a : EReal) : EReal :=
  if Ideal.ofBits .f32 0x00800000#32 ≤ target a ∧ target a < Ideal.ofBits .f32 0x7B800000#32 then
    Ideal.liftRound Int.floor (Ideal.div (Ideal.log (target a)) (Ideal.log (Ideal.ofBits .f32 0x40000000#32)))
      + Ideal.ofBits .f32 0x3F800000#32
  else Ideal.ofBits .f32 0x00000000#32

/-- The scale of a row: two to the exponent. -/
def scale (a : EReal) : EReal := Ideal.exp2 (expo a)

/-- The reciprocal of the scale: two to minus the exponent. -/
def rscale (a : EReal) : EReal := Ideal.exp2 (Ideal.ofBits .f32 0x00000000#32 - expo a)

/-- The 8-bit code of a value in a row whose greatest absolute value is `a`: the value times the reciprocal scale, held
    between -448 and 448. -/
def code (a v : EReal) : EReal :=
  min (Ideal.ofBits .f32 0x43E00000#32) (max (Ideal.ofBits .f32 0xC3E00000#32) (v * rscale a))

/-- The gated product: `silu g * u`. -/
def gate (g u : EReal) : EReal := g * Ideal.logistic g * u

/-- The greatest entry of a list of numbers, from minus infinity. -/
def peak {n : Nat} (f : Fin n → EReal) : EReal := Finset.univ.fold max (Ideal.ofBits .f32 0xFF800000#32) f

/-- The absolute value. -/
def mag (v : EReal) : EReal := max v (-v)

/-- The kernel's table of powers of two, as words: the exponent field holds the position plus one, 247 at most. -/
def powerWord (k : Nat) : BitVec 32 := Scalar.minsi (BitVec.ofNat 32 k + 1#32) 247#32 <<< 23

/-- The kernel's count of the table's entries that are at most the target. -/
def countWord (a : EReal) : BitVec 32 :=
  ∑ k : Fin 255, if target a < Ideal.ofBits .f32 (powerWord k.val) then 0#32 else 1#32

/-- The kernel's exponent as a word: the count less 126, zero at the two ends of the count and for a zero row. -/
def expoWord (a : EReal) : BitVec 32 :=
  if (countWord a = 0#32 ∨ countWord a = 255#32) ∨ a = Ideal.ofBits .f32 0x00000000#32 then 0#32 else countWord a - 126#32

/-- The word with `e` in the exponent field and zero elsewhere denotes `2 ^ (e - 127)`. -/
theorem ofBits_shift (e : Nat) (h0 : 1 ≤ e) (h1 : e ≤ 254) :
    Ideal.ofBits .f32 (BitVec.ofNat 32 e <<< 23) = (((2 : ℝ) ^ ((e : ℤ) - 127) : ℝ) : EReal) := by
  have key : ∀ e : Fin 255, ((BitVec.ofNat 32 e.val <<< 23).extractLsb' 31 1 == 1#1) = false
      ∧ ((BitVec.ofNat 32 e.val <<< 23).extractLsb' 23 8).toNat = e.val
      ∧ ((BitVec.ofNat 32 e.val <<< 23).extractLsb' 0 23).toNat = 0 := by decide +kernel
  obtain ⟨k1, k2, k3⟩ := key ⟨e, by omega⟩
  dsimp only at k1 k2 k3
  show Ideal.ieee 8 23 (BitVec.ofNat 32 e <<< 23) = _
  unfold Ideal.ieee
  simp only [k1, k2, k3]
  rw [if_neg (by norm_num; omega), if_neg (by omega)]
  refine congrArg (fun x : ℝ => (x : EReal)) ?_
  have e1 : ((e : ℤ) - 127) = ((e : ℤ) - (2 ^ (8 - 1) - 1) - ((23 : ℕ) : ℤ)) + ((23 : ℕ) : ℤ) := by push_cast; ring
  have e2 : ((if false = true then (-1 : ℝ) else 1) * ((2 ^ 23 + 0 : ℕ) : ℝ)) = (2 : ℝ) ^ 23 := by norm_num
  rw [e1, zpow_add₀ (by norm_num : (2 : ℝ) ≠ 0), zpow_natCast, e2, mul_comm]

/-- The table's entry at position `k` is `2 ^ (min (k + 1) 247 - 127)`. -/
theorem ofBits_power (k : Fin 255) :
    Ideal.ofBits .f32 (powerWord k.val) = (((2 : ℝ) ^ (((min (k.val + 1) 247 : ℕ) : ℤ) - 127) : ℝ) : EReal) := by
  have h : ∀ k : Fin 255, powerWord k.val = BitVec.ofNat 32 (min (k.val + 1) 247) <<< 23 := by decide +kernel
  rw [h]
  exact ofBits_shift _ (by omega) (by omega)

/-- How many of the first 255 positions lie below `N`. -/
theorem card_below (N : Nat) (h : N ≤ 255) : (Finset.univ.filter fun k : Fin 255 => k.val + 1 ≤ N).card = N := by
  have : (Finset.univ.filter fun k : Fin 255 => k.val + 1 ≤ N).card = (Finset.range N).card := by
    refine Finset.card_bij (fun k _ => k.val) ?_ ?_ ?_
    · intro k hk
      have := (Finset.mem_filter.mp hk).2
      exact Finset.mem_range.mpr (by omega)
    · intro k _ k' _ e
      exact Fin.ext e
    · intro n hn
      have := Finset.mem_range.mp hn
      exact ⟨⟨n, by omega⟩, Finset.mem_filter.mpr ⟨Finset.mem_univ _, by dsimp only; omega⟩, rfl⟩
  rw [this, Finset.card_range]

/-- When the entries at most the target are exactly the first `N`, the count is `N`. -/
theorem countWord_eq (a : EReal) (N : Nat) (hN : N ≤ 255)
    (h : ∀ k : Fin 255, Ideal.ofBits .f32 (powerWord k.val) ≤ target a ↔ k.val + 1 ≤ N) : countWord a = BitVec.ofNat 32 N := by
  have e : countWord a = ∑ k : Fin 255, if k.val + 1 ≤ N then (1 : BitVec 32) else 0 := by
    refine Finset.sum_congr rfl fun k _ => ?_
    by_cases hk : k.val + 1 ≤ N
    · rw [if_pos hk, if_neg (not_lt.mpr ((h k).mpr hk))]; rfl
    · rw [if_neg hk, if_pos (not_le.mp fun h' => hk ((h k).mp h'))]; rfl
  rw [e, Finset.sum_boole, card_below N hN]
  rfl

/-- A power of two is at most a positive `r` exactly when its exponent is at most the floor of `r`'s base-two logarithm. -/
theorem zpow_le_iff (r : ℝ) (hr : 0 < r) (x : ℤ) : (2 : ℝ) ^ x ≤ r ↔ x ≤ ⌊Real.log r / Real.log 2⌋ := by
  have h2 : 0 < Real.log 2 := Real.log_pos (by norm_num)
  rw [Int.le_floor, le_div_iff₀ h2, ← Real.log_zpow, Real.log_le_log_iff (by positivity) hr]

/-- The three cases of the target, and in each the count and the exponent: below the least normal number the count is 0,
    from `2 ^ 120` on it is 255, and between, at binary exponent `n`, it is `n + 127` while the exponent is `n + 1`. -/
theorem cases (a : EReal) : (expo a = 0 ∧ expoWord a = 0#32) ∨
    ∃ N : Nat, 1 ≤ N ∧ N ≤ 246 ∧ expo a = (((N : ℤ) - 126 : ℤ) : ℝ) ∧ expoWord a = BitVec.ofNat 32 N - 126#32 := by
  have hz : Ideal.ofBits .f32 0x00000000#32 = 0 := by simp [Ideal.ofBits, Ideal.ieee]
  have h1 : Ideal.ofBits .f32 0x3F800000#32 = ((1 : ℝ) : EReal) := by
    have := ofBits_shift 127 (by norm_num) (by norm_num)
    rw [show (BitVec.ofNat 32 127 <<< 23) = 0x3F800000#32 from by decide] at this
    rw [this]; norm_num
  have h2 : Ideal.ofBits .f32 0x40000000#32 = ((2 : ℝ) : EReal) := by
    have := ofBits_shift 128 (by norm_num) (by norm_num)
    rw [show (BitVec.ofNat 32 128 <<< 23) = 0x40000000#32 from by decide] at this
    rw [this]; norm_num
  have hlo : Ideal.ofBits .f32 0x00800000#32 = (((2 : ℝ) ^ (-126 : ℤ) : ℝ) : EReal) := by
    have := ofBits_shift 1 (by norm_num) (by norm_num)
    rw [show (BitVec.ofNat 32 1 <<< 23) = 0x00800000#32 from by decide] at this
    rw [this]; norm_num
  have hhi : Ideal.ofBits .f32 0x7B800000#32 = (((2 : ℝ) ^ (120 : ℤ) : ℝ) : EReal) := by
    have := ofBits_shift 247 (by norm_num) (by norm_num)
    rw [show (BitVec.ofNat 32 247 <<< 23) = 0x7B800000#32 from by decide] at this
    rw [this]; norm_num
  have mono : ∀ x y : ℤ, x ≤ y → (((2 : ℝ) ^ x : ℝ) : EReal) ≤ (((2 : ℝ) ^ y : ℝ) : EReal) := fun x y h =>
    EReal.coe_le_coe_iff.mpr (zpow_le_zpow_right₀ (by norm_num) h)
  by_cases hl : (((2 : ℝ) ^ (-126 : ℤ) : ℝ) : EReal) ≤ target a
  · by_cases hh : target a < (((2 : ℝ) ^ (120 : ℤ) : ℝ) : EReal)
    · right
      obtain ⟨r, hr⟩ : ∃ r : ℝ, target a = r := by
        induction h : target a with
        | bot => rw [h] at hl; exact absurd (le_bot_iff.mp hl) (EReal.coe_ne_bot _)
        | top => rw [h] at hh; exact absurd hh (not_lt.mpr le_top)
        | coe r => exact ⟨r, rfl⟩
      rw [hr] at hl hh
      have hl' := EReal.coe_le_coe_iff.mp hl
      have hh' := EReal.coe_lt_coe_iff.mp hh
      have hpos : 0 < r := lt_of_lt_of_le (by positivity) hl'
      obtain ⟨n, hn⟩ : ∃ n : ℤ, ⌊Real.log r / Real.log 2⌋ = n := ⟨_, rfl⟩
      have hle : ∀ x : ℤ, (2 : ℝ) ^ x ≤ r ↔ x ≤ n := fun x => hn ▸ zpow_le_iff r hpos x
      have hn0 : -126 ≤ n := (hle _).mp hl'
      have hn1 : n < 120 := not_le.mp fun h => absurd ((hle 120).mpr h) (not_le.mpr hh')
      obtain ⟨N, hN⟩ : ∃ N : ℕ, (N : ℤ) = n + 127 := ⟨(n + 127).toNat, by omega⟩
      have hc : countWord a = BitVec.ofNat 32 N := by
        refine countWord_eq a N (by omega) fun k => ?_
        rw [ofBits_power, hr, EReal.coe_le_coe_iff, hle]
        omega
      refine ⟨N, by omega, by omega, ?_, ?_⟩
      · unfold expo
        rw [hlo, hhi, hr, if_pos ⟨hl, hh⟩, h2, h1, Ideal.log_coe, if_neg (not_le.mpr hpos), Ideal.log_coe, if_neg (by norm_num),
          Ideal.div_coe (by have := Real.log_pos (by norm_num : (1 : ℝ) < 2); exact this.ne'), ← EReal.coe_mul, mul_one_div]
        rw [Ideal.liftRound_coe, hn, ← EReal.coe_add]
        congr 1
        have : n = (N : ℤ) - 127 := by omega
        rw [this]; push_cast; ring
      · unfold expoWord
        rw [hc, if_neg]
        rintro ((h | h) | h)
        · have := congrArg BitVec.toNat h
          simp at this
          omega
        · have := congrArg BitVec.toNat h
          simp at this
          omega
        · rw [hz] at h
          have : target a = 0 := by rw [target, h, zero_mul]
          rw [this] at hr
          have : (0 : ℝ) = r := by exact_mod_cast hr
          exact absurd this hpos.ne
    · left
      refine ⟨?_, ?_⟩
      · unfold expo
        rw [hlo, hhi, if_neg (fun h => hh h.2), hz]
      · have hc : countWord a = BitVec.ofNat 32 255 := by
          refine countWord_eq a 255 le_rfl fun k => ?_
          rw [ofBits_power]
          exact ⟨fun _ => by omega, fun _ => (mono _ 120 (by omega)).trans (not_lt.mp hh)⟩
        unfold expoWord
        rw [hc, if_pos (.inl (.inr rfl))]
  · left
    refine ⟨?_, ?_⟩
    · unfold expo
      rw [hlo, hhi, if_neg (fun h => hl h.1), hz]
    · have hc : countWord a = BitVec.ofNat 32 0 := by
        refine countWord_eq a 0 (by omega) fun k => ?_
        rw [ofBits_power]
        exact ⟨fun h => absurd ((mono (-126) _ (by omega)).trans h) hl, fun h => by omega⟩
      unfold expoWord
      rw [hc, if_pos (.inl (.inl rfl))]

/-- Two to an integer, as the exponential of the reference. -/
theorem exp2_int (z : ℤ) : Ideal.exp2 ((z : ℝ) : EReal) = (((2 : ℝ) ^ z : ℝ) : EReal) := by
  rw [Ideal.exp2_coe]
  exact congrArg (fun x : ℝ => (x : EReal)) (Real.rpow_intCast 2 z)

/-- The word with `e` in the exponent field is two to any integer that equals `e - 127`, as an exponential. -/
theorem ofBits_exp2 (e : Nat) (h0 : 1 ≤ e) (h1 : e ≤ 254) (z : ℤ) (hz : z = (e : ℤ) - 127) :
    Ideal.ofBits .f32 (BitVec.ofNat 32 e <<< 23) = Ideal.exp2 ((z : ℝ) : EReal) := by
  rw [ofBits_shift e h0 h1, exp2_int, hz]

/-- The scale built from the exponent field of a word is the reference's power of two. -/
theorem ofBits_scale (a : EReal) : Ideal.ofBits .f32 ((127#32 + expoWord a) <<< 23) = scale a := by
  unfold scale
  rcases cases a with ⟨h, h'⟩ | ⟨N, h0, h1, h, h'⟩
  · rw [h, h', show (127#32 + 0#32) = BitVec.ofNat 32 127 from by decide, ofBits_exp2 127 (by omega) (by omega) 0 (by omega)]
    rw [Int.cast_zero, EReal.coe_zero]
  · have hw : 127#32 + (BitVec.ofNat 32 N - 126#32) = BitVec.ofNat 32 (N + 1) := by
      have : ∀ n : Fin 247, 127#32 + (BitVec.ofNat 32 n.val - 126#32) = BitVec.ofNat 32 (n.val + 1) := by decide +kernel
      exact this ⟨N, by omega⟩
    rw [h, h', hw]
    exact ofBits_exp2 (N + 1) (by omega) (by omega) _ (by omega)

/-- The reciprocal built from the exponent field of a word is the reference's power of two. -/
theorem ofBits_rscale (a : EReal) : Ideal.ofBits .f32 ((127#32 - expoWord a) <<< 23) = rscale a := by
  have hz : Ideal.ofBits .f32 0x00000000#32 = ((0 : ℝ) : EReal) := by simp [Ideal.ofBits, Ideal.ieee]
  unfold rscale
  rcases cases a with ⟨h, h'⟩ | ⟨N, h0, h1, h, h'⟩
  · rw [h, h', show (127#32 - 0#32) = BitVec.ofNat 32 127 from by decide, ofBits_exp2 127 (by omega) (by omega) 0 (by omega), hz]
    rw [Int.cast_zero, EReal.coe_zero, sub_zero]
  · have hw : 127#32 - (BitVec.ofNat 32 N - 126#32) = BitVec.ofNat 32 (253 - N) := by
      have : ∀ n : Fin 247, 127#32 - (BitVec.ofNat 32 n.val - 126#32) = BitVec.ofNat 32 (253 - n.val) := by decide +kernel
      exact this ⟨N, by omega⟩
    rw [h, h', hw, hz, ← EReal.coe_sub, zero_sub, ← Int.cast_neg]
    exact ofBits_exp2 (253 - N) (by omega) (by omega) _ (by omega)

end Cert.Quant

end
-- ==== Proof.Hand.KernelBlock.lean ====
/-
  The kernel's values, entry by entry: what its body computes from one block of rows and one block of columns, in the
  terms of `Hand/Exponent.lean`.
-/
module

public import proofs.«01_k».proof.Proof.Gen.KernelIdeal.Skeleton
public import proofs.«01_k».proof.Proof.Hand.Exponent
public import Idealize.ShloMosaic.Lib.Pointwise

@[expose] public section

set_option maxRecDepth 16384

noncomputable section

namespace Cert.KernelIdeal.Block

open Cert.KernelIdeal Cert.KernelIdeal.Gen Idealize.ShloMosaic Cert.Quant

/-- The table of powers of two, one row per block row, as the kernel writes it. -/
def tableWords : IVec S512x255 32 :=
  shli (minsi (addi (iota .tc S512x255 32 [1] iota_S512x255_d1_w32) (broadcast S512x255 1#32)) (broadcast S512x255 247#32))
    (broadcast S512x255 23#32)

/-- The kernel's 0/1 table: one where the power of two is at most the target. -/
def tableHits (v : FVec Ideal S512x1 .f32) : IVec S512x255 32 :=
  select (cmpf .olt (broadcastTo S512x255 v broadcasts_S512x1_S512x255) (bitcastToFloat .f32 tableWords))
    (broadcast S512x255 0#32) (broadcast S512x255 1#32)

/-- The sum of each row of a 0/1 table. -/
def rowCount (w : IVec S512x255 32) : IVec S512x1 32 :=
  shapeCast S512x1 (multiReductionI .add [1] S512 w 0#32 reduces_S512x255_S512 rfl) shapeCasts_S512_S512x1

/-- A lane's shift by 23 is the word's. -/
theorem shli_23 (x : BitVec 32) : IntOp.shli .vector x 23#32 = x <<< 23 := by
  unfold IntOp.shli
  rw [if_pos (by decide)]
  rfl

/-- An entry of the column numbers is its column. -/
theorem iota_apply (r : Fin 512) (k : Fin 255) :
    iota .tc S512x255 32 [1] iota_S512x255_d1_w32 (ix2 r k) = BitVec.ofNat 32 k.val := by
  show BitVec.ofNat 32 (0 * S512x255.size 1 + k.val) = _
  rw [Nat.zero_mul, Nat.zero_add]

/-- An entry of the table is the power of two at its column. -/
theorem tableWords_apply (r : Fin 512) (k : Fin 255) : tableWords (ix2 r k) = powerWord k.val := by
  have e : tableWords (ix2 r k)
      = IntOp.shli .vector (IntOp.minsi (iota .tc S512x255 32 [1] iota_S512x255_d1_w32 (ix2 r k) + 1#32) 247#32) 23#32 := rfl
  rw [e, iota_apply, shli_23]
  rfl

/-- An entry of the 0/1 table is zero where the row's target is below the column's power of two. -/
theorem tableHits_apply (v : FVec Ideal S512x1 .f32) (r : Fin 512) (k : Fin 255) :
    tableHits v (ix2 r k) = if v (ix2 r 0) < Ideal.ofBits .f32 (powerWord k.val) then 0#32 else 1#32 := by
  rw [← tableWords_apply r k]
  unfold tableHits
  generalize tableWords = w
  pointwise

/-- A row's sum is the sum over its columns. -/
theorem rowCount_apply (w : IVec S512x255 32) (r : Fin 512) (c : Fin 1) : rowCount w (ix2 r c) = ∑ k : Fin 255, w (ix2 r k) := by
  unfold rowCount
  pointwise
  rw [Finset.sum_eq_fold]
  rfl

/-- The kernel's exponents of a block's rows, from the rows' greatest absolute values: the shared part of the two
    quantisers. -/
def expoWords (v : FVec Ideal S512x1 .f32) : IVec S512x1 32 :=
  select
    (ori (ori (cmpi .eq (rowCount (tableHits (mulf v (broadcast S512x1 (Scalar.ofBits .f32 0x3B124925#32))))) (broadcast S512x1 0#32))
        (cmpi .eq (rowCount (tableHits (mulf v (broadcast S512x1 (Scalar.ofBits .f32 0x3B124925#32))))) (broadcast S512x1 255#32)))
      (cmpf .oeq v (broadcast S512x1 (Scalar.ofBits .f32 0x00000000#32))))
    (broadcast S512x1 0#32)
    (subi (rowCount (tableHits (mulf v (broadcast S512x1 (Scalar.ofBits .f32 0x3B124925#32))))) (broadcast S512x1 126#32))

/-- A row's sum of the 0/1 table is the count of the row's greatest absolute value. -/
theorem count_apply (v : FVec Ideal S512x1 .f32) (r : Fin 512) (c : Fin 1) :
    rowCount (tableHits (mulf v (broadcast S512x1 (Scalar.ofBits .f32 0x3B124925#32)))) (ix2 r c) = countWord (v (ix2 r 0)) := by
  rw [rowCount_apply]
  exact Finset.sum_congr rfl fun k _ => tableHits_apply _ r k

/-- A select on the disjunction of three bits. -/
theorem select_or (p q s : Bool) (x y : BitVec 32) :
    Scalar.select (IntOp.ori (IntOp.ori (BitVec.ofBool p) (BitVec.ofBool q)) (BitVec.ofBool s)) x y
      = if (p = true ∨ q = true) ∨ s = true then x else y := by
  cases p <;> cases q <;> cases s <;> rfl

/-- A row's exponent is the exponent of its greatest absolute value. -/
theorem expoWords_apply (v : FVec Ideal S512x1 .f32) (r : Fin 512) (c : Fin 1) : expoWords v (ix2 r c) = expoWord (v (ix2 r 0)) := by
  obtain rfl : c = 0 := Subsingleton.elim _ _
  have e : expoWords v (ix2 r 0)
      = Scalar.select (IntOp.ori (IntOp.ori
            (IntOp.cmpi .eq (rowCount (tableHits (mulf v (broadcast S512x1 (Scalar.ofBits .f32 0x3B124925#32)))) (ix2 r 0)) 0#32)
            (IntOp.cmpi .eq (rowCount (tableHits (mulf v (broadcast S512x1 (Scalar.ofBits .f32 0x3B124925#32)))) (ix2 r 0)) 255#32))
            (Ideal.cmp .oeq (v (ix2 r 0)) (Ideal.ofBits .f32 0x00000000#32)))
          0#32 (rowCount (tableHits (mulf v (broadcast S512x1 (Scalar.ofBits .f32 0x3B124925#32)))) (ix2 r 0) - 126#32) := rfl
  rw [e, count_apply]
  unfold expoWord
  generalize countWord (v (ix2 r 0)) = n
  generalize v (ix2 r 0) = a
  refine (select_or (n == 0#32) (n == 255#32) (decide (a = Ideal.ofBits .f32 0x00000000#32)) 0#32 (n - 126#32)).trans ?_
  simp only [beq_iff_eq, decide_eq_true_eq]

/-- The row maxima of the absolute values of an input block. -/
def absMax (x : Vec Ideal S512x3584 .bf16) : FVec Ideal S512x1 .f32 :=
  shapeCast S512x1 (multiReduction .maximumf [1] S512 (absf (k0_pay3 (F := Ideal) x)) 0xFF800000#32 reduces_S512x3584_S512 (.inl rfl) rfl)
    shapeCasts_S512_S512x1

/-- The greatest of the 128 lanes of each row of the running maximum. -/
def laneMax (x : Vec Ideal S512x128 .f32) : FVec Ideal S512x1 .f32 :=
  shapeCast S512x1 (multiReduction .maximumf [1] S512 x 0xFF800000#32 reduces_S512x128_S512 (.inl rfl) rfl) shapeCasts_S512_S512x1

/-- Widening a block of the activations changes no value. -/
theorem pay3_eq (x : Vec Ideal S512x3584 .bf16) : k0_pay3 (F := Ideal) x = x := by
  unfold k0_pay3
  rw [shapeCast_id]
  rfl

/-- A row's entry is the greatest absolute value of the row. -/
theorem absMax_apply (x : Vec Ideal S512x3584 .bf16) (r : Fin 512) (c : Fin 1) :
    absMax x (ix2 r c) = peak fun k : Fin 3584 => mag (x (ix2 r k)) := by
  have e : ∀ k : Fin 3584, mag (x (ix2 r k)) = absf (k0_pay3 (F := Ideal) x) (ix2 r k) := fun k => by
    rw [pay3_eq]; rfl
  simp only [e]
  unfold absMax peak
  generalize absf (k0_pay3 (F := Ideal) x) = v
  pointwise

/-- A row's entry is the greatest of its lanes. -/
theorem laneMax_apply (x : Vec Ideal S512x128 .f32) (r : Fin 512) (c : Fin 1) :
    laneMax x (ix2 r c) = peak fun k : Fin 128 => x (ix2 r k) := by
  unfold laneMax peak
  pointwise

/-- The exponents of a block of the activations are those of its rows' greatest absolute values. -/
theorem pay4_eq (x : Vec Ideal S512x3584 .bf16) : k0_pay4 (F := Ideal) x = expoWords (absMax x) := rfl

/-- The exponents of a block of the gated product are those of its running maximum's greatest lanes. -/
theorem pay7_eq (x : Vec Ideal S512x128 .f32) : k0_pay7 (F := Ideal) x = expoWords (laneMax x) := rfl

/-- The scale stored for a row of the activations. -/
theorem pay5_apply (x : Vec Ideal S512x3584 .bf16) (r : Fin 512) (c : Fin 1) :
    k0_pay5 (F := Ideal) x (ix2 r c) = scale (absMax x (ix2 r 0)) := by
  rw [← ofBits_scale, ← expoWords_apply (absMax x) r c, ← pay4_eq, ← shli_23]
  rfl

/-- The scale stored for a row of the gated product. -/
theorem pay8_apply (x : Vec Ideal S512x128 .f32) (r : Fin 512) (c : Fin 1) :
    k0_pay8 (F := Ideal) x (ix2 r c) = scale (laneMax x (ix2 r 0)) := by
  rw [← ofBits_scale, ← expoWords_apply (laneMax x) r c, ← pay7_eq, ← shli_23]
  rfl

/-- An entry scaled, clipped at both ends and stored as a code. -/
theorem clip_apply (v : FVec Ideal S512x3584 .f32) (w : FVec Ideal S512x1 .f32) (r : Fin 512) (k : Fin 3584) :
    truncf .fp8e4m3 (minimumf (broadcast S512x3584 (Scalar.ofBits (F := Ideal) .f32 0x43E00000#32))
      (maximumf (broadcast S512x3584 (Scalar.ofBits (F := Ideal) .f32 0xC3E00000#32))
        (mulf v (broadcastTo S512x3584 w broadcasts_S512x1_S512x3584)))) bitsLt_fp8e4m3_f32 (ix2 r k)
    = min (Ideal.ofBits .f32 0x43E00000#32) (max (Ideal.ofBits .f32 0xC3E00000#32) (v (ix2 r k) * w (ix2 r 0))) := by
  pointwise

/-- The code stored for an entry of the activations. -/
theorem codes_apply (x : Vec Ideal S512x3584 .bf16) (r : Fin 512) (k : Fin 3584) :
    k0_pay10 (F := Ideal) (k0_pay3 x) (k0_pay6 (F := Ideal) x) (ix2 r k) = code (absMax x (ix2 r 0)) (x (ix2 r k)) := by
  refine (clip_apply _ _ r k).trans ?_
  unfold code
  rw [← ofBits_rscale, ← expoWords_apply (absMax x) r 0, ← pay4_eq, ← shli_23, pay3_eq]
  rfl

/-- The code stored for an entry of the gated product. -/
theorem pay2_apply (mx : Vec Ideal S512x128 .f32) (v : Vec Ideal S512x3584 .f32) (r : Fin 512) (k : Fin 3584) :
    k0_pay2 (F := Ideal) (k0_pay9 (F := Ideal) mx) v (ix2 r k) = code (laneMax mx (ix2 r 0)) (v (ix2 r k)) := by
  refine (clip_apply _ _ r k).trans ?_
  unfold code
  rw [← ofBits_rscale, ← expoWords_apply (laneMax mx) r 0, ← pay7_eq, ← shli_23]
  rfl

/-- An entry of the gated product, from the codes, the scales and the two blocks of weights. -/
theorem pay12_apply (xc : Vec Ideal S512x3584 .fp8e4m3) (xs : Vec Ideal S512x1 .f32) (wg wu : Vec Ideal S3584x512 .fp8e4m3)
    (sg su : Vec Ideal S1x512 .f32) (r : Fin 512) (q : Fin 512) :
    k0_pay12 (F := Ideal) xc xs wg wu sg su (ix2 r q)
      = gate ((∑ k : Fin 3584, xc (ix2 r k) * wg (ix2 k q)) * xs (ix2 r 0) * sg (ix2 0 q))
          ((∑ k : Fin 3584, xc (ix2 r k) * wu (ix2 k q)) * xs (ix2 r 0) * su (ix2 0 q)) := by
  unfold gate
  pointwise [k0_pay12]

/-- The gated product as it is stored is the gated product. -/
theorem pay13_apply (xc : Vec Ideal S512x3584 .fp8e4m3) (xs : Vec Ideal S512x1 .f32) (wg wu : Vec Ideal S3584x512 .fp8e4m3)
    (sg su : Vec Ideal S1x512 .f32) : k0_pay13 (F := Ideal) xc xs wg wu sg su = k0_pay12 (F := Ideal) xc xs wg wu sg su := by
  unfold k0_pay13
  rw [shapeCast_id]

/-- The running maximum starts at zero. -/
theorem pay11_apply (r : Fin 512) (l : Fin 128) : k0_pay11 (F := Ideal) (ix2 r l) = 0 := by
  pointwise [k0_pay11]

/-- One step of the running maximum in a lane: what was there and the four columns of the block in the lane. -/
theorem maxStep_apply (mx : Vec Ideal S512x128 .f32) (v : FVec Ideal S512x512 .f32) (r : Fin 512) (l : Fin 128) :
    k0_pay1 (F := Ideal) mx v (extractStridedSlice S512x128 ![0, 0] v slices_S512x512_o0_0_S512x128)
        (extractStridedSlice S512x128 ![0, 128] v slices_S512x512_o0_128_S512x128) (ix2 r l)
      = max (mx (ix2 r l)) (max (max (max (v (ix2 r ⟨l.val, by omega⟩)) (v (ix2 r ⟨128 + l.val, by omega⟩)))
          (v (ix2 r ⟨256 + l.val, by omega⟩))) (v (ix2 r ⟨384 + l.val, by omega⟩))) := by
  pointwise [k0_pay1]

end Cert.KernelIdeal.Block

end
-- ==== Proof.Hand.Spec.lean ====
/-
  The mathematics both programs compute, entry by entry over the extended reals: the row-wise quantiser, the two
  dequantised products, the gate, and the quantiser again.
-/
module

public import proofs.«01_k».proof.Proof.Hand.Exponent
public import Idealize.ShloMosaic.Lib.Pointwise

@[expose] public section

noncomputable section

namespace Cert.Quant

open Idealize.ShloMosaic

/-- An array of the activations' shape. -/
abbrev Acts : Type := (⟨2, ![4096, 3584]⟩ : Shape).Idx → EReal

/-- An array of the weights' shape: gate columns first, then up columns. -/
abbrev Weights : Type := (⟨2, ![3584, 7168]⟩ : Shape).Idx → EReal

/-- The weights' scales, one a column, as a row. -/
abbrev Scales : Type := (⟨2, ![1, 7168]⟩ : Shape).Idx → EReal

variable (x : Acts) (w : Weights) (s : Scales)

/-- The greatest absolute value of row `i` of the activations. -/
def actPeak (i : Fin 4096) : EReal := peak fun k : Fin 3584 => mag (x (ix2 i k))

/-- The dequantised product at row `i`, column `n` of the stacked weights. -/
def product (i : Fin 4096) (n : Fin 7168) : EReal :=
  (∑ k : Fin 3584, code (actPeak x i) (x (ix2 i k)) * w (ix2 k n)) * scale (actPeak x i) * s (ix2 0 n)

/-- The gated product at row `i`, column `j`. -/
def gated (i : Fin 4096) (j : Fin 3584) : EReal :=
  gate (product x w s i ⟨j.val, by omega⟩) (product x w s i ⟨3584 + j.val, by omega⟩)

/-- The greatest absolute value of row `i` of the gated product. -/
def gatedPeak (i : Fin 4096) : EReal := peak fun j : Fin 3584 => mag (gated x w s i j)

/-- The scales of the gated product's rows. -/
def outScale : (⟨2, ![4096, 1]⟩ : Shape).Idx → EReal := fun y => scale (gatedPeak x w s (y 0))

/-- The codes of the gated product. -/
def outCode : Acts := fun y => code (gatedPeak x w s (y 0)) (gated x w s (y 0) (y 1))

/-- The codes of the activations. -/
def actCode : Acts := fun y => code (actPeak x (y 0)) (x y)

/-- The scales of the activations' rows. -/
def actScale : (⟨2, ![4096, 1]⟩ : Shape).Idx → EReal := fun y => scale (actPeak x (y 0))

end Cert.Quant

end
-- ==== Proof.Hand.KernelValue.lean ====
/-
  The kernel's four result arrays. Each grid point reads a block of rows of the activations and a block of columns of
  the weights; the blocks it leaves are the blocks of the arrays of `Cert.Quant`, and the running maximum, kept lane by
  lane over the seven blocks of columns, is the row's greatest absolute value at the last of them.
-/
module

public import proofs.«01_k».proof.Proof.Hand.KernelIdealBody
public import proofs.«01_k».proof.Proof.Hand.KernelBlock
public import proofs.«01_k».proof.Proof.Hand.Spec
public import Idealize.ShloMosaic.Lib.Pipeline.Value
public import Idealize.ShloMosaic.Lib.Pipeline.ValueKit

@[expose] public section

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Run Cert.KernelIdeal.Block Cert.Quant

variable (m : (ℓ : Loc nD τ sig) → Buf (Elt Ideal) ℓ) (ρ : Dev nD → PrngReg)

/-! ## The arrays the region finds -/

/-- The activations as a matrix: the argument without its leading axis of extent one. -/
def acts (c : Dev nD) : Acts :=
  shapeCast S4096x3584 (m ((c : Thread nD τ).loc main_arg0) : Vec Ideal S1x4096x3584 .bf16) shapeCasts_S1x4096x3584_S4096x3584

/-- The weights. -/
def weights (c : Dev nD) : Weights := m ((c : Thread nD τ).loc main_arg1)

/-- The weights' scales as a row. -/
def scales (c : Dev nD) : Scales :=
  shapeCast S1x7168 (m ((c : Thread nD τ).loc main_arg2) : Vec Ideal S7168 .f32) shapeCasts_S7168_S1x7168

/-- The region finds the activations as a matrix. -/
theorem V_main_v0 (c : Dev nD) : V m c main_v0 = acts m c := by
  unfold_abbrev_sides
  after_results
  rfl

/-- The region finds the weights' scales as a row. -/
theorem V_main_v1 (c : Dev nD) : V m c main_v1 = scales m c := by
  unfold_abbrev_sides
  after_results
  rfl

/-! ## The blocks -/

/-- Every window's block index at a point (decided). -/
theorem idx : ∀ t : Fin cfg0.N, win0_0.index t = ![t.val / 7, 0]
    ∧ win0_1.index t = ![0, t.val % 7] ∧ win0_2.index t = ![0, 7 + t.val % 7]
    ∧ win0_3.index t = ![0, t.val % 7] ∧ win0_4.index t = ![0, 7 + t.val % 7] :=
  (by decide +kernel : ∀ t : Fin grid0.N, _)

/-- The result windows' block indices at a point (decided). -/
theorem idxOut : ∀ t : Fin cfg0.N, win0_5.index t = ![t.val / 7, 0] ∧ win0_6.index t = ![t.val / 7, 0]
    ∧ win0_7.index t = ![t.val / 7, 0] ∧ win0_8.index t = ![t.val / 7, 0] :=
  (by decide +kernel : ∀ t : Fin grid0.N, _)

/-- There are 56 points. -/
theorem point_lt (t : Fin cfg0.N) : t.val < 56 := Nat.lt_of_lt_of_eq t.isLt N_0

/-- The row of the arrays that row `r` of point `t`'s block is. -/
def rowOf (t : Fin cfg0.N) (r : Fin 512) : Fin 4096 := ⟨512 * (t.val / 7) + r.val, by have := point_lt t; omega⟩

/-- The column of the hidden activations that column `q` of point `t`'s block is. -/
def colOf (t : Fin cfg0.N) (q : Fin 512) : Fin 3584 := ⟨512 * (t.val % 7) + q.val, by omega⟩

/-- The block of the activations at a point. -/
theorem read0 (c : Dev nD) (t : Fin cfg0.N) (r : Fin 512) (k : Fin 3584) :
    (iblk m c 0 t : Vec Ideal S512x3584 .bf16) (ix2 r k) = acts m c (ix2 (rowOf t r) k) := by
  rw [← V_main_v0]
  blk_ext [iblk, idx t, rowOf]

/-- The block of the gate's weights at a point. -/
theorem read1 (c : Dev nD) (t : Fin cfg0.N) (k : Fin 3584) (q : Fin 512) :
    (iblk m c 1 t : Vec Ideal S3584x512 .fp8e4m3) (ix2 k q) = weights m c (ix2 k ⟨(colOf t q).val, by omega⟩) := by
  refine Eq.trans ?_ (congrFun (V_main_arg1 m c) _)
  blk_ext [iblk, idx t, colOf]

/-- The block of the other weights at a point. -/
theorem read2 (c : Dev nD) (t : Fin cfg0.N) (k : Fin 3584) (q : Fin 512) :
    (iblk m c 2 t : Vec Ideal S3584x512 .fp8e4m3) (ix2 k q) = weights m c (ix2 k ⟨3584 + (colOf t q).val, by omega⟩) := by
  refine Eq.trans ?_ (congrFun (V_main_arg1 m c) _)
  blk_ext [iblk, idx t, colOf]

/-- The block of the gate's scales at a point. -/
theorem read3 (c : Dev nD) (t : Fin cfg0.N) (q : Fin 512) :
    (iblk m c 3 t : Vec Ideal S1x512 .f32) (ix2 0 q) = scales m c (ix2 0 ⟨(colOf t q).val, by omega⟩) := by
  rw [← V_main_v1]
  blk_ext [iblk, idx t, colOf]

/-- The block of the other scales at a point. -/
theorem read4 (c : Dev nD) (t : Fin cfg0.N) (q : Fin 512) :
    (iblk m c 4 t : Vec Ideal S1x512 .f32) (ix2 0 q) = scales m c (ix2 0 ⟨3584 + (colOf t q).val, by omega⟩) := by
  rw [← V_main_v1]
  blk_ext [iblk, idx t, colOf]

/-! ## What a point computes -/

/-- The first point of a row of blocks has the same rows. -/
theorem rowOf_base (t : Fin cfg0.N) (r : Fin 512) : rowOf (base t) r = rowOf t r :=
  Fin.ext (by show 512 * (t.val / 7 * 7 / 7) + r.val = 512 * (t.val / 7) + r.val; omega)

/-- A row of a block has the greatest absolute value of the activations' row. -/
theorem absMax_at (c : Dev nD) (t : Fin cfg0.N) (r : Fin 512) :
    absMax (iblk m c 0 (base t)) (ix2 r 0) = actPeak (acts m c) (rowOf t r) := by
  rw [absMax_apply]
  unfold actPeak
  exact congrArg peak (funext fun k => by rw [← rowOf_base t r]; exact congrArg mag (read0 m c (base t) r k))

/-- The codes of the rows at a point. -/
theorem codesAt_apply (c : Dev nD) (t : Fin cfg0.N) (r : Fin 512) (k : Fin 3584) :
    codesAt m c t (ix2 r k) = code (actPeak (acts m c) (rowOf t r)) (acts m c (ix2 (rowOf t r) k)) := by
  refine (codes_apply (iblk m c 0 (base t)) r k).trans ?_
  rw [absMax_at, read0, rowOf_base]

/-- The scales of the rows at a point. -/
theorem scalesAt_apply (c : Dev nD) (t : Fin cfg0.N) (r : Fin 512) (z : Fin 1) :
    scalesAt m c t (ix2 r z) = scale (actPeak (acts m c) (rowOf t r)) := by
  refine (pay5_apply (iblk m c 0 (base t)) r z).trans ?_
  rw [absMax_at]

/-- The block of gated products a point computes. -/
theorem gatedAt_apply (c : Dev nD) (t : Fin cfg0.N) (r q : Fin 512) :
    k0_pay12 (F := Ideal) (codesAt m c t) (scalesAt m c t) (iblk m c 1 t) (iblk m c 2 t) (iblk m c 3 t) (iblk m c 4 t) (ix2 r q)
      = gated (acts m c) (weights m c) (scales m c) (rowOf t r) (colOf t q) := by
  refine (pay12_apply (codesAt m c t) (scalesAt m c t) (iblk m c 1 t) (iblk m c 2 t) (iblk m c 3 t) (iblk m c 4 t) r q).trans ?_
  unfold gated product
  simp only [codesAt_apply, scalesAt_apply, read1, read2, read3, read4]

/-- The same block, as it is stored. -/
theorem hiddenAt_apply (c : Dev nD) (t : Fin cfg0.N) (r q : Fin 512) :
    hiddenAt m c t (ix2 r q) = gated (acts m c) (weights m c) (scales m c) (rowOf t r) (colOf t q) := by
  rw [← gatedAt_apply]
  exact congrFun (pay13_apply (codesAt m c t) (scalesAt m c t) (iblk m c 1 t) (iblk m c 2 t) (iblk m c 3 t) (iblk m c 4 t)) _

/-- The rows of gated products of a row of blocks, all the columns. -/
theorem rowHidden_apply (c : Dev nD) (t : Fin cfg0.N) (r : Fin 512) (k : Fin 3584) :
    rowHidden m c t (ix2 r k) = gated (acts m c) (weights m c) (scales m c) (rowOf t r) k := by
  have e : inBlock (ix2 r k) = ix2 r ⟨k.val % 512, Nat.mod_lt _ (by decide)⟩ := by
    refine (eq_ix2 _).trans ?_
    rfl
  unfold rowHidden
  rw [e, hiddenAt_apply]
  have hk := k.isLt
  have h1 : rowOf (colPoint t (ix2 r k)) r = rowOf t r :=
    Fin.ext (by show 512 * ((t.val / 7 * 7 + k.val / 512) / 7) + r.val = 512 * (t.val / 7) + r.val; omega)
  have h2 : colOf (colPoint t (ix2 r k)) ⟨k.val % 512, Nat.mod_lt _ (by decide)⟩ = k :=
    Fin.ext (by show 512 * ((t.val / 7 * 7 + k.val / 512) % 7) + k.val % 512 = k.val; omega)
  rw [h1, h2]

/-! ## The running maximum -/

/-- One point's step of the running maximum, against a bound: the bound must hold for what was there and for the
    columns of the point's block in the lane. -/
theorem stepAt_le (c : Dev nD) (t : Fin cfg0.N) (mx : Vec Ideal S512x128 .f32) (r : Fin 512) (l : Fin 128) (b : EReal) :
    stepAt m c t mx (ix2 r l) ≤ b ↔ mx (ix2 r l) ≤ b ∧ ∀ j : Fin 3584, j.val % 128 = l.val → j.val / 512 = t.val % 7 →
      mag (gated (acts m c) (weights m c) (scales m c) (rowOf t r) j) ≤ b := by
  have e : ∀ q : Fin 512, k0_pay14 (F := Ideal) (codesAt m c t) (scalesAt m c t) (iblk m c 1 t) (iblk m c 2 t) (iblk m c 3 t)
      (iblk m c 4 t) (ix2 r q) = mag (gated (acts m c) (weights m c) (scales m c) (rowOf t r) (colOf t q)) := fun q =>
    congrArg mag (gatedAt_apply m c t r q)
  have s : stepAt m c t mx (ix2 r l) = _ := maxStep_apply mx (k0_pay14 (F := Ideal) (codesAt m c t) (scalesAt m c t)
    (iblk m c 1 t) (iblk m c 2 t) (iblk m c 3 t) (iblk m c 4 t)) r l
  rw [s]
  simp only [e, max_le_iff]
  refine and_congr_right fun _ => ⟨?_, fun h => ⟨⟨⟨h _ ?_ ?_, h _ ?_ ?_⟩, h _ ?_ ?_⟩, h _ ?_ ?_⟩⟩
  · rintro ⟨⟨⟨h0, h1⟩, h2⟩, h3⟩ j hl hj
    have hjl := j.isLt
    have c4 : j.val % 512 / 128 = 0 ∨ j.val % 512 / 128 = 1 ∨ j.val % 512 / 128 = 2 ∨ j.val % 512 / 128 = 3 := by omega
    rcases c4 with h | h | h | h
    · have ej : j = colOf t ⟨l.val, by omega⟩ := Fin.ext (by show j.val = 512 * (t.val % 7) + l.val; omega)
      rw [ej]; exact h0
    · have ej : j = colOf t ⟨128 + l.val, by omega⟩ := Fin.ext (by show j.val = 512 * (t.val % 7) + (128 + l.val); omega)
      rw [ej]; exact h1
    · have ej : j = colOf t ⟨256 + l.val, by omega⟩ := Fin.ext (by show j.val = 512 * (t.val % 7) + (256 + l.val); omega)
      rw [ej]; exact h2
    · have ej : j = colOf t ⟨384 + l.val, by omega⟩ := Fin.ext (by show j.val = 512 * (t.val % 7) + (384 + l.val); omega)
      rw [ej]; exact h3
  all_goals
    have hl := l.isLt
    simp only [colOf]
    omega

/-- The running maximum after point `n`, against a bound: the bound must be at least zero and hold for the columns so
    far in the lane. -/
theorem maxAt_le (c : Dev nD) (r : Fin 512) (l : Fin 128) (b : EReal) : ∀ (n : ℕ) (hn : n < cfg0.N),
    maxAt m c n hn (ix2 r l) ≤ b ↔ 0 ≤ b ∧ ∀ j : Fin 3584, j.val % 128 = l.val → j.val / 512 ≤ n % 7 →
      mag (gated (acts m c) (weights m c) (scales m c) (rowOf ⟨n, hn⟩ r) j) ≤ b := by
  intro n
  induction n with
  | zero =>
    intro hn
    rw [maxAt_first m c ⟨0, hn⟩ rfl, stepAt_le, pay11_apply]
    refine and_congr_right fun _ => forall_congr' fun j => forall_congr' fun _ => ?_
    show (_ = 0 → _) ↔ (_ ≤ 0 → _)
    rw [Nat.le_zero]
  | succ n ih =>
    intro hn
    by_cases h : (n + 1) % 7 = 0
    · rw [maxAt_first m c ⟨n + 1, hn⟩ h, stepAt_le, pay11_apply]
      refine and_congr_right fun _ => forall_congr' fun j => forall_congr' fun _ => ?_
      show (_ = (n + 1) % 7 → _) ↔ (_ ≤ (n + 1) % 7 → _)
      rw [h, Nat.le_zero]
    · rw [maxAt_next m c ⟨n + 1, hn⟩ h, stepAt_le]
      have er : rowOf ⟨n, Nat.lt_of_succ_lt hn⟩ r = rowOf ⟨n + 1, hn⟩ r :=
        Fin.ext (by show 512 * (n / 7) + r.val = 512 * ((n + 1) / 7) + r.val; omega)
      have hp := ih (Nat.lt_of_succ_lt hn)
      rw [er] at hp
      refine (and_congr_left fun _ => hp).trans ?_
      rw [and_assoc]
      refine and_congr_right fun _ => ⟨fun ⟨h0, h1⟩ j hl hj => ?_, fun h0 => ⟨fun j hl hj => h0 j hl (by omega), fun j hl hj => ?_⟩⟩
      · by_cases hlt : j.val / 512 ≤ n % 7
        · exact h0 j hl hlt
        · exact h1 j hl (by show _ = (n + 1) % 7; omega)
      · exact h0 j hl (by have hj' : j.val / 512 = (n + 1) % 7 := hj; omega)

/-- A fold of maxima is at most a bound when every term is. -/
theorem peak_le {n : Nat} (f : Fin n → EReal) (b : EReal) : peak f ≤ b ↔ ∀ k, f k ≤ b := by
  unfold peak
  rw [Finset.fold_max_le]
  have e : Ideal.ofBits .f32 0xFF800000#32 = (⊥ : EReal) := by
    simp [Ideal.ofBits, Ideal.ieee]
  simp [e]

/-- An absolute value is at least zero. -/
theorem mag_nonneg (v : EReal) : 0 ≤ mag v := by
  unfold mag
  rcases le_total 0 v with h | h
  · exact le_max_of_le_left h
  · exact le_max_of_le_right (by simpa using h)

/-- At the last block of columns the greatest of the lanes is the row's greatest absolute value. -/
theorem laneMax_at (c : Dev nD) (t : Fin cfg0.N) (h : t.val % 7 = 6) (r : Fin 512) :
    laneMax (maxAt m c t.val t.isLt) (ix2 r 0) = gatedPeak (acts m c) (weights m c) (scales m c) (rowOf t r) := by
  rw [laneMax_apply]
  refine eq_of_forall_ge_iff fun b => ?_
  unfold gatedPeak
  rw [peak_le, peak_le]
  refine (forall_congr' fun l => maxAt_le m c r l b t.val t.isLt).trans ?_
  refine ⟨fun hb j => (hb ⟨j.val % 128, Nat.mod_lt _ (by decide)⟩).2 j rfl (by have := j.isLt; omega), fun hb l => ⟨?_, fun j _ _ => hb j⟩⟩
  exact (mag_nonneg _).trans (hb 0)

/-! ## The result arrays -/

/-- Where an entry of a block of the first result lies in the array. -/
theorem emb5 (t : Fin cfg0.N) (r : Fin 512) (z : Fin 1) : (win0_5.blk t).view.emb (ix2 r z) = ix2 (rowOf t r) z := by
  funext a
  refine Fin.ext ?_
  fin_cases a
  · blk_simp [idxOut t, rowOf]
    show t.val / 7 * 512 + r.val = 512 * (t.val / 7) + r.val
    omega
  · blk_simp [idxOut t, rowOf]

/-- Where an entry of a block of the second result lies in the array. -/
theorem emb6 (t : Fin cfg0.N) (r : Fin 512) (k : Fin 3584) : (win0_6.blk t).view.emb (ix2 r k) = ix2 (rowOf t r) k := by
  funext a
  refine Fin.ext ?_
  fin_cases a
  · blk_simp [idxOut t, rowOf]
    show t.val / 7 * 512 + r.val = 512 * (t.val / 7) + r.val
    omega
  · blk_simp [idxOut t, rowOf]
    rfl

/-- Where an entry of a block of the third result lies in the array. -/
theorem emb7 (t : Fin cfg0.N) (r : Fin 512) (k : Fin 3584) : (win0_7.blk t).view.emb (ix2 r k) = ix2 (rowOf t r) k := by
  funext a
  refine Fin.ext ?_
  fin_cases a
  · blk_simp [idxOut t, rowOf]
    show t.val / 7 * 512 + r.val = 512 * (t.val / 7) + r.val
    omega
  · blk_simp [idxOut t, rowOf]
    rfl

/-- Where an entry of a block of the fourth result lies in the array. -/
theorem emb8 (t : Fin cfg0.N) (r : Fin 512) (z : Fin 1) : (win0_8.blk t).view.emb (ix2 r z) = ix2 (rowOf t r) z := by
  funext a
  refine Fin.ext ?_
  fin_cases a
  · blk_simp [idxOut t, rowOf]
    show t.val / 7 * 512 + r.val = 512 * (t.val / 7) + r.val
    omega
  · blk_simp [idxOut t, rowOf]

/-- The first result: the scales of the gated product's rows. -/
theorem final5 (c : Dev nD) : (dats m 0 c).arrAt 5 cfg0.N = outScale (acts m c) (weights m c) (scales m c) := by
  refine (dats m 0 c).arrAt_eq_of_covers 5 _ (by decide +kernel) fun t hf y => ?_
  blk_simp
  rw [after0_5]
  obtain ⟨r, z, rfl⟩ : ∃ (r : Fin 512) (z : Fin 1), y = ix2 r z := ⟨y 0, y 1, eq_ix2 y⟩
  refine (pay8_apply _ r z).trans ?_
  rw [laneMax_at m c t ((flush0_5 t).mp hf) r, emb5]
  rfl

/-- The second result: the codes of the gated product. -/
theorem final6 (c : Dev nD) : (dats m 0 c).arrAt 6 cfg0.N = outCode (acts m c) (weights m c) (scales m c) := by
  refine (dats m 0 c).arrAt_eq_of_covers 6 _ (by decide +kernel) fun t hf y => ?_
  blk_simp
  rw [after0_6]
  obtain ⟨r, k, rfl⟩ : ∃ (r : Fin 512) (k : Fin 3584), y = ix2 r k := ⟨y 0, y 1, eq_ix2 y⟩
  refine (pay2_apply _ _ r k).trans ?_
  rw [laneMax_at m c t ((flush0_6 t).mp hf) r, rowHidden_apply, emb6]
  rfl

/-- The third result: the codes of the activations. -/
theorem final7 (c : Dev nD) : (dats m 0 c).arrAt 7 cfg0.N = actCode (acts m c) := by
  refine (dats m 0 c).arrAt_eq_of_covers 7 _ (by decide +kernel) fun t hf y => ?_
  blk_simp
  rw [after0_7]
  obtain ⟨r, k, rfl⟩ : ∃ (r : Fin 512) (k : Fin 3584), y = ix2 r k := ⟨y 0, y 1, eq_ix2 y⟩
  refine (codesAt_apply m c t r k).trans ?_
  rw [emb7]
  rfl

/-- The fourth result: the scales of the activations' rows. -/
theorem final8 (c : Dev nD) : (dats m 0 c).arrAt 8 cfg0.N = actScale (acts m c) := by
  refine (dats m 0 c).arrAt_eq_of_covers 8 _ (by decide +kernel) fun t hf y => ?_
  blk_simp
  rw [after0_8]
  obtain ⟨r, z, rfl⟩ : ∃ (r : Fin 512) (z : Fin 1), y = ix2 r z := ⟨y 0, y 1, eq_ix2 y⟩
  refine (scalesAt_apply m c t r z).trans ?_
  rw [emb8]
  rfl

/-- The kernel's run: its four results, and its arguments as they were. -/
theorem run : θ_run defs (onTc (τ := τ) (main (F := Ideal))) ⟨m, fun _ => 0, ρ⟩ fun r => ∀ c : Dev nD,
      r.2.mem ((c : Thread nD τ).loc main_v2_0) = outScale (acts m c) (weights m c) (scales m c)
      ∧ r.2.mem ((c : Thread nD τ).loc main_v2_1) = outCode (acts m c) (weights m c) (scales m c)
      ∧ r.2.mem ((c : Thread nD τ).loc main_v2_2) = actCode (acts m c)
      ∧ r.2.mem ((c : Thread nD τ).loc main_v2_3) = actScale (acts m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 5).trans (final5 m c), ((h c).1 6).trans (final6 m c),
      ((h c).1 7).trans (final7 m c), ((h c).1 8).trans (final8 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Final

end
-- ==== Proof.Hand.RefBlock.lean ====
/-
  The reference's values, entry by entry: each payload of its body over the whole arrays is the mathematics of
  `Hand/Spec.lean`.
-/
module

public import proofs.«01_k».proof.Proof.Gen.ReferenceIdeal.Skeleton
public import proofs.«01_k».proof.Proof.Hand.Spec

@[expose] public section

set_option maxRecDepth 16384

noncomputable section

namespace Cert.ReferenceIdeal.Block

open Cert.ReferenceIdeal Cert.ReferenceIdeal.Gen Idealize.ShloMosaic Cert.Quant

/-- The greatest absolute value of each row, as the reference takes it. -/
def absMax (v : FVec Ideal S4096x3584 .f32) : FVec Ideal S4096x1 .f32 :=
  shapeCast S4096x1 (multiReduction .maximumf [1] S4096 (absf v) 0xFF800000#32 reduces_S4096x3584_S4096 (.inl rfl) rfl)
    shapeCasts_S4096_S4096x1

/-- A row's entry is the greatest absolute value of the row. -/
theorem absMax_apply (v : FVec Ideal S4096x3584 .f32) (i : Fin 4096) (c : Fin 1) :
    absMax v (ix2 i c) = peak fun k : Fin 3584 => mag (v (ix2 i k)) := by
  have e : ∀ k : Fin 3584, mag (v (ix2 i k)) = absf v (ix2 i k) := fun k => rfl
  simp only [e]
  unfold absMax peak
  generalize absf v = u
  pointwise

/-- The exponents of the rows, from their greatest absolute values, as the reference writes them. -/
def expos (v : FVec Ideal S4096x1 .f32) : FVec Ideal S4096x1 .f32 :=
  select (andi (cmpf .oge (mulf v (broadcast S4096x1 (Scalar.ofBits .f32 0x3B124925#32))) (broadcast S4096x1 (Scalar.ofBits .f32 0x00800000#32)))
      (cmpf .olt (mulf v (broadcast S4096x1 (Scalar.ofBits .f32 0x3B124925#32))) (broadcast S4096x1 (Scalar.ofBits .f32 0x7B800000#32))))
    (addf (floor (divf (log (mulf v (broadcast S4096x1 (Scalar.ofBits .f32 0x3B124925#32)))) (log (broadcast S4096x1 (Scalar.ofBits .f32 0x40000000#32)))))
      (broadcast S4096x1 (Scalar.ofBits .f32 0x3F800000#32)))
    (broadcast S4096x1 (Scalar.ofBits .f32 0x00000000#32))

/-- A select on the conjunction of two bits. -/
theorem select_and (p q : Bool) (a b : EReal) :
    Scalar.select (IntOp.andi (BitVec.ofBool p) (BitVec.ofBool q)) a b = if p = true ∧ q = true then a else b := by
  cases p <;> cases q <;> rfl

/-- A row's exponent is the exponent of its greatest absolute value. -/
theorem expos_apply (v : FVec Ideal S4096x1 .f32) (j : S4096x1.Idx) : expos v j = expo (v j) := by
  refine (select_and (decide (Ideal.ofBits .f32 0x00800000#32 ≤ target (v j))) (decide (target (v j) < Ideal.ofBits .f32 0x7B800000#32))
    (Ideal.liftRound Int.floor (Ideal.div (Ideal.log (target (v j))) (Ideal.log (Ideal.ofBits .f32 0x40000000#32)))
      + Ideal.ofBits .f32 0x3F800000#32) (Ideal.ofBits .f32 0x00000000#32)).trans ?_
  simp only [decide_eq_true_eq]
  rfl

/-- Widening the activations changes no value. -/
theorem pay1_eq (x : Vec Ideal S4096x3584 .bf16) : k0_pay1 (F := Ideal) x = x := by
  unfold k0_pay1
  rw [shapeCast_id]
  rfl

/-- The exponents of the activations are those of the rows' greatest absolute values. -/
theorem pay2_eq (x : Vec Ideal S4096x3584 .bf16) : k0_pay2 (F := Ideal) x = expos (absMax x) := by
  unfold k0_pay2 expos absMax
  rw [pay1_eq]

/-- The exponents of the gated product are those of its rows' greatest absolute values. -/
theorem pay9_eq (g u : FVec Ideal S4096x3584 .f32) : k0_pay9 (F := Ideal) g u = expos (absMax (k0_pay8 (F := Ideal) g u)) := by
  unfold k0_pay9 expos absMax
  rfl

/-- A power of two taken entry by entry. -/
theorem exp2_at (v : FVec Ideal S4096x1 .f32) (j : S4096x1.Idx) : exp2 v j = Ideal.exp2 (v j) := rfl

/-- A power of two of the negated exponent, entry by entry. -/
theorem rexp2_at (v : FVec Ideal S4096x1 .f32) (j : S4096x1.Idx) :
    exp2 (subf (broadcast S4096x1 (Scalar.ofBits (F := Ideal) .f32 0x00000000#32)) v) j
      = Ideal.exp2 (Ideal.ofBits .f32 0x00000000#32 - v j) := rfl

/-- Two to a row's exponent is the row's scale. -/
theorem scale_at (v : FVec Ideal S4096x1 .f32) (j : S4096x1.Idx) : exp2 (expos v) j = scale (v j) := by
  rw [exp2_at, expos_apply]
  rfl

/-- Two to minus a row's exponent is the reciprocal of the row's scale. -/
theorem rscale_at (v : FVec Ideal S4096x1 .f32) (j : S4096x1.Idx) :
    exp2 (subf (broadcast S4096x1 (Scalar.ofBits (F := Ideal) .f32 0x00000000#32)) (expos v)) j = rscale (v j) := by
  rw [rexp2_at, expos_apply]
  rfl

/-- The scale of a row of the activations. -/
theorem pay3_apply (x : Vec Ideal S4096x3584 .bf16) (i : Fin 4096) (c : Fin 1) :
    k0_pay3 (F := Ideal) x (ix2 i c) = scale (actPeak x i) := by
  unfold k0_pay3
  rw [pay2_eq, scale_at, absMax_apply]
  rfl

/-- An entry scaled, clipped at both ends and stored as a code. -/
theorem clip_apply (v : FVec Ideal S4096x3584 .f32) (w : FVec Ideal S4096x1 .f32) (i : Fin 4096) (k : Fin 3584) :
    truncf .fp8e4m3 (minimumf (broadcast S4096x3584 (Scalar.ofBits (F := Ideal) .f32 0x43E00000#32))
      (maximumf (broadcast S4096x3584 (Scalar.ofBits (F := Ideal) .f32 0xC3E00000#32))
        (mulf v (broadcastTo S4096x3584 w broadcasts_S4096x1_S4096x3584)))) bitsLt_fp8e4m3_f32 (ix2 i k)
    = min (Ideal.ofBits .f32 0x43E00000#32) (max (Ideal.ofBits .f32 0xC3E00000#32) (v (ix2 i k) * w (ix2 i 0))) := by
  pointwise

/-- An entry's code, from the greatest absolute values of the rows. -/
theorem code_at (v : FVec Ideal S4096x3584 .f32) (a : FVec Ideal S4096x1 .f32) (i : Fin 4096) (k : Fin 3584) :
    truncf .fp8e4m3 (minimumf (broadcast S4096x3584 (Scalar.ofBits (F := Ideal) .f32 0x43E00000#32))
      (maximumf (broadcast S4096x3584 (Scalar.ofBits (F := Ideal) .f32 0xC3E00000#32))
        (mulf v (broadcastTo S4096x3584
          (exp2 (subf (broadcast S4096x1 (Scalar.ofBits (F := Ideal) .f32 0x00000000#32)) (expos a))) broadcasts_S4096x1_S4096x3584))))
      bitsLt_fp8e4m3_f32 (ix2 i k)
    = code (a (ix2 i 0)) (v (ix2 i k)) := by
  rw [clip_apply, rscale_at]
  rfl

/-- The code of an entry of the activations. -/
theorem pay4_apply (x : Vec Ideal S4096x3584 .bf16) (i : Fin 4096) (k : Fin 3584) :
    k0_pay4 (F := Ideal) x (ix2 i k) = code (actPeak x i) (x (ix2 i k)) := by
  unfold k0_pay4
  rw [pay1_eq, pay2_eq]
  refine (code_at x (absMax x) i k).trans ?_
  rw [absMax_apply]
  rfl

/-- An entry of the dequantised product. -/
theorem pay5_apply (x : Vec Ideal S4096x3584 .bf16) (w : Vec Ideal S3584x7168 .fp8e4m3) (s : Vec Ideal S1x7168 .f32) (i : Fin 4096)
    (n : Fin 7168) : k0_pay5 (F := Ideal) x w s (ix2 i n) = product x w s i n := by
  have h : k0_pay5 (F := Ideal) x w s (ix2 i n)
      = (∑ k : Fin 3584, k0_pay4 (F := Ideal) x (ix2 i k) * w (ix2 k n)) * k0_pay3 (F := Ideal) x (ix2 i 0) * s (ix2 0 n) := by
    unfold k0_pay5
    generalize k0_pay4 (F := Ideal) x = c
    generalize k0_pay3 (F := Ideal) x = d
    pointwise
  rw [h, pay3_apply]
  simp only [pay4_apply]
  rfl

/-- The gated product of the reference. -/
def gatedOf (x : Vec Ideal S4096x3584 .bf16) (w : Vec Ideal S3584x7168 .fp8e4m3) (s : Vec Ideal S1x7168 .f32) : FVec Ideal S4096x3584 .f32 :=
  k0_pay8 (F := Ideal) (k0_pay6 (F := Ideal) x w s) (k0_pay7 (F := Ideal) x w s)

/-- An entry of the gated product. -/
theorem gatedOf_apply (x : Vec Ideal S4096x3584 .bf16) (w : Vec Ideal S3584x7168 .fp8e4m3) (s : Vec Ideal S1x7168 .f32) (i : Fin 4096)
    (j : Fin 3584) : gatedOf x w s (ix2 i j) = gated x w s i j := by
  unfold gated
  rw [← pay5_apply, ← pay5_apply]
  unfold gatedOf gate k0_pay6 k0_pay7 k0_pay8
  generalize k0_pay5 (F := Ideal) x w s = y
  pointwise

/-- The greatest absolute value of a row of the gated product. -/
theorem peak_apply (x : Vec Ideal S4096x3584 .bf16) (w : Vec Ideal S3584x7168 .fp8e4m3) (s : Vec Ideal S1x7168 .f32) (i : Fin 4096)
    (c : Fin 1) : absMax (gatedOf x w s) (ix2 i c) = gatedPeak x w s i := by
  rw [absMax_apply]
  simp only [gatedOf_apply]
  rfl

/-- Two arrays of rank two are equal when their entries are. -/
theorem ext2 {a b : Nat} {u v : (⟨2, ![a, b]⟩ : Shape).Idx → EReal} (h : ∀ (i : Fin a) (j : Fin b), u (ix2 i j) = v (ix2 i j)) : u = v := by
  funext y
  rw [eq_ix2 y]
  exact h _ _

/-- The scales of the gated product's rows. -/
theorem pay10_eq (x : Vec Ideal S4096x3584 .bf16) (w : Vec Ideal S3584x7168 .fp8e4m3) (s : Vec Ideal S1x7168 .f32) :
    k0_pay10 (F := Ideal) (k0_pay6 (F := Ideal) x w s) (k0_pay7 (F := Ideal) x w s) = outScale x w s := by
  refine ext2 fun i c => ?_
  unfold k0_pay10
  rw [pay9_eq, scale_at]
  exact congrArg scale (peak_apply x w s i c)

/-- The codes of the gated product. -/
theorem pay11_eq (x : Vec Ideal S4096x3584 .bf16) (w : Vec Ideal S3584x7168 .fp8e4m3) (s : Vec Ideal S1x7168 .f32) :
    k0_pay11 (F := Ideal) (k0_pay6 (F := Ideal) x w s) (k0_pay7 (F := Ideal) x w s) = outCode x w s := by
  refine ext2 fun i j => ?_
  unfold k0_pay11
  rw [pay9_eq]
  refine (code_at (gatedOf x w s) (absMax (gatedOf x w s)) i j).trans ?_
  rw [peak_apply, gatedOf_apply]
  rfl

/-- The codes of the activations. -/
theorem pay4_eq (x : Vec Ideal S4096x3584 .bf16) : k0_pay4 (F := Ideal) x = actCode x :=
  ext2 fun i k => pay4_apply x i k

/-- The scales of the activations' rows. -/
theorem pay3_eq (x : Vec Ideal S4096x3584 .bf16) : k0_pay3 (F := Ideal) x = actScale x :=
  ext2 fun i c => pay3_apply x i c

end Cert.ReferenceIdeal.Block

end
-- ==== Proof.Hand.RefValue.lean ====
/-
  The reference's four result arrays: its one grid point holds the whole arrays, so each result is what its body
  stores, and that is the array of `Cert.Quant`.
-/
module

public import proofs.«01_k».proof.Proof.Gen.ReferenceIdeal.Frame
public import proofs.«01_k».proof.Proof.Hand.RefBlock
public import Idealize.ShloMosaic.Lib.Pipeline.Value
public import Idealize.ShloMosaic.Lib.Pipeline.ValueKit

@[expose] public section

noncomputable section

namespace Cert.ReferenceIdeal.Final

open Idealize.ShloMosaic Idealize.ShloMosaic.TcCoe Idealize.SL.Sem
open Idealize.ShloMosaic.Pipeline (Dat)
open Cert.ReferenceIdeal Cert.ReferenceIdeal.Gen Cert.ReferenceIdeal.Block Cert.Quant

variable (m : (ℓ : Loc nD τ sig) → Buf (Elt Ideal) ℓ) (ρ : Dev nD → PrngReg)

/-- The activations as a matrix: the argument without its leading axis of extent one. -/
def acts (c : Dev nD) : Acts :=
  shapeCast S4096x3584 (m ((c : Thread nD τ).loc main_arg0) : Vec Ideal S1x4096x3584 .bf16) shapeCasts_S1x4096x3584_S4096x3584

/-- The weights. -/
def weights (c : Dev nD) : Weights := m ((c : Thread nD τ).loc main_arg1)

/-- The weights' scales as a row. -/
def scales (c : Dev nD) : Scales :=
  shapeCast S1x7168 (m ((c : Thread nD τ).loc main_arg2) : Vec Ideal S7168 .f32) shapeCasts_S7168_S1x7168

/-- The region finds the activations as a matrix. -/
theorem V_main_v0 (c : Dev nD) : V m c main_v0 = acts m c := by
  unfold_abbrev_sides
  after_results
  rfl

/-- The region finds the weights' scales as a row. -/
theorem V_main_v1 (c : Dev nD) : V m c main_v1 = scales m c := by
  unfold_abbrev_sides
  after_results
  rfl

/-- The zero offset, written as a vector. -/
theorem hz : (![0, 0] : Fin 2 → Nat) = fun _ => 0 := funext fun a => by fin_cases a <;> rfl

/-- Every input window's block index at the one point (decided). -/
theorem idx : ∀ t : Fin cfg0.N, win0_0.index t = ![0, 0] ∧ win0_1.index t = ![0, 0] ∧ win0_2.index t = ![0, 0] :=
  (by decide +kernel : ∀ t : Fin grid0.N, _)

/-- The one block of the activations is the array. -/
theorem block0 (c : Dev nD) (t : Fin cfg0.N) : iblk m c 0 t = acts m c := by
  rw [← V_main_v0]
  funext y
  blk_ext [iblk, idx t]

/-- The one block of the weights is the array. -/
theorem block1 (c : Dev nD) (t : Fin cfg0.N) : iblk m c 1 t = weights m c := by
  refine Eq.trans ?_ (V_main_arg1 m c)
  funext y
  blk_ext [iblk, idx t]

/-- The one block of the weights' scales is the array. -/
theorem block2 (c : Dev nD) (t : Fin cfg0.N) : iblk m c 2 t = scales m c := by
  rw [← V_main_v1]
  funext y
  blk_ext [iblk, idx t]

/-- The first result: the scales of the gated product's rows. -/
theorem final3 (c : Dev nD) : (dats m 0 c).arrAt 3 cfg0.N = outScale (acts m c) (weights m c) (scales m c) := by
  refine (dats m 0 c).arrAt_eq_of_after_last 3 t0_0 (by decide +kernel) _ fun j => ?_
  blk_simp
  rw [after0_3]
  unfold out0_3 k0_pay12 k0_pay13
  rw [View.canon_unit_zero hz, View.ld_unit_zero hz, View.ld_unit_zero hz, View.ld_unit_zero hz, pay10_eq, block0, block1, block2]

/-- The second result: the codes of the gated product. -/
theorem final4 (c : Dev nD) : (dats m 0 c).arrAt 4 cfg0.N = outCode (acts m c) (weights m c) (scales m c) := by
  refine (dats m 0 c).arrAt_eq_of_after_last 4 t0_0 (by decide +kernel) _ fun j => ?_
  blk_simp
  rw [after0_4]
  unfold out0_4 k0_pay12 k0_pay13
  rw [View.canon_unit_zero hz, View.ld_unit_zero hz, View.ld_unit_zero hz, View.ld_unit_zero hz, pay11_eq, block0, block1, block2]

/-- The third result: the codes of the activations. -/
theorem final5 (c : Dev nD) : (dats m 0 c).arrAt 5 cfg0.N = actCode (acts m c) := by
  refine (dats m 0 c).arrAt_eq_of_after_last 5 t0_0 (by decide +kernel) _ fun j => ?_
  blk_simp
  rw [after0_5]
  unfold out0_5
  rw [View.canon_unit_zero hz, View.ld_unit_zero hz, pay4_eq, block0]

/-- The fourth result: the scales of the activations' rows. -/
theorem final6 (c : Dev nD) : (dats m 0 c).arrAt 6 cfg0.N = actScale (acts m c) := by
  refine (dats m 0 c).arrAt_eq_of_after_last 6 t0_0 (by decide +kernel) _ fun j => ?_
  blk_simp
  rw [after0_6]
  unfold out0_6
  rw [View.canon_unit_zero hz, View.ld_unit_zero hz, pay3_eq, block0]

/-- The reference's run: its four results, and its arguments as they were. -/
theorem run : θ_run defs (onTc (τ := τ) (main (F := Ideal))) ⟨m, fun _ => 0, ρ⟩ fun r => ∀ c : Dev nD,
      r.2.mem ((c : Thread nD τ).loc main_v2_0) = outScale (acts m c) (weights m c) (scales m c)
      ∧ r.2.mem ((c : Thread nD τ).loc main_v2_1) = outCode (acts m c) (weights m c) (scales m c)
      ∧ r.2.mem ((c : Thread nD τ).loc main_v2_2) = actCode (acts m c)
      ∧ r.2.mem ((c : Thread nD τ).loc main_v2_3) = actScale (acts m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final3 m c), ((h c).1 4).trans (final4 m c),
      ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Final

end
-- ==== Proof.lean ====
/- The claims: the three programs end with their arguments unchanged and every semaphore at zero, the kernel over the
   extended reals is the kernel's own program, and there its four results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Hand.KernelBody
public import proofs.«01_k».proof.Proof.Hand.KernelIdealBody
public import proofs.«01_k».proof.Proof.Hand.KernelValue
public import proofs.«01_k».proof.Proof.Hand.RefValue
public import Idealize.ShloMosaic.Adequacy
public import Idealize.ShloMosaic.Init

@[expose] public section

noncomputable section

namespace Cert.Proof

open Idealize.ShloMosaic Idealize.SL.Sem Cert.Kernel

/-- Over the extended reals the kernel and the reference, run on the same arguments, end with the same four results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, Cert.KernelIdeal.Final.run m g, ?_⟩
  have ea : ∀ c, Cert.ReferenceIdeal.Final.acts m' c = Cert.KernelIdeal.Final.acts m c := fun c => by
    unfold Cert.ReferenceIdeal.Final.acts Cert.KernelIdeal.Final.acts
    rw [(hargs c).1]
  have ew : ∀ c, Cert.ReferenceIdeal.Final.weights m' c = Cert.KernelIdeal.Final.weights m c := fun c => (hargs c).2.1
  have es : ∀ c, Cert.ReferenceIdeal.Final.scales m' c = Cert.KernelIdeal.Final.scales m c := fun c => by
    unfold Cert.ReferenceIdeal.Final.scales Cert.KernelIdeal.Final.scales
    rw [(hargs c).2.2]
  have h := Cert.ReferenceIdeal.Final.run m' g'
  simp only [ea, ew, es] at h
  exact h

/-- Everything claimed. -/
theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g, fun m g _ => Cert.ReferenceIdeal.Gen.frame m g, trivial,
  algebraic⟩

end Cert.Proof

end
